-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_clip_KernelIdeal [hPre_within_clip_KernelIdeal : Cert.Pre_within_clip_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_clip_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_clip_ReferenceIdeal [hPre_within_clip_ReferenceIdeal : Cert.Pre_within_clip_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_clip_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_clip_KernelIdeal [hKernelIdeal : Cert.KernelIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_clip_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_clip_ReferenceIdeal [hReferenceIdeal : Cert.ReferenceIdeal.Facts] [hPre_within_clip_ReferenceIdeal : Cert.Pre_within_clip_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_clip_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_within_clip_KernelIdeal [hKernelIdeal : Cert.KernelIdeal.Facts] [hReferenceIdeal : Cert.ReferenceIdeal.Facts] [hPre_within_clip_KernelIdeal : Cert.Pre_within_clip_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_clip_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_within_clip_KernelIdeal : Cert.Pre_within_clip_KernelIdeal.Facts) (hPre_within_clip_ReferenceIdeal : Cert.Pre_within_clip_ReferenceIdeal.Facts),
    quiescent_Kernel (hKernel := hKernel)
    ∧ quiescent_KernelIdeal (hKernelIdeal := hKernelIdeal)
    ∧ quiescent_KernelIdeal_pre_within_clip_KernelIdeal (hKernelIdeal := hKernelIdeal) (hPre_within_clip_KernelIdeal := hPre_within_clip_KernelIdeal)
    ∧ quiescent_ReferenceIdeal (hReferenceIdeal := hReferenceIdeal)
    ∧ quiescent_ReferenceIdeal_pre_within_clip_ReferenceIdeal (hReferenceIdeal := hReferenceIdeal) (hPre_within_clip_ReferenceIdeal := hPre_within_clip_ReferenceIdeal)
    ∧ quiescent_UnclippedIdeal (hUnclippedIdeal := hUnclippedIdeal)
    ∧ preserves_Kernel_KernelIdeal
    ∧ algebraic_KernelIdeal_ReferenceIdeal_pre_within_clip_KernelIdeal (hKernelIdeal := hKernelIdeal) (hReferenceIdeal := hReferenceIdeal) (hPre_within_clip_KernelIdeal := hPre_within_clip_KernelIdeal)
    ∧ algebraic_KernelIdeal_UnclippedIdeal (hKernelIdeal := hKernelIdeal) (hUnclippedIdeal := hUnclippedIdeal)
-- ==== Pre_within_clip_KernelIdeal.lean ====
abbrev S512x2048 : Shape := ⟨2, ![512, 2048]⟩
abbrev S2048x2048 : Shape := ⟨2, ![2048, 2048]⟩
abbrev S_ : Shape := ⟨0, ![]⟩

class Facts : Prop where
  bcast_S_S512x2048 : S_.BroadcastsInDim S512x2048 (![] : Fin 0 → Fin S512x2048.rank)
  dot_S512x2048_S2048x2048_S512x2048_1_0_0_1_n_n_wf : DotDims.WF S512x2048 S2048x2048 S512x2048 [1] [0] [0] [1] [] []

variable [Facts]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def fn {F : FTy → Type} [FloatOps F] (main_arg0 : FVec F S512x2048 .f32) (main_arg1 : FVec F S2048x2048 .f32) : IVec S512x2048 1 :=
  let main_v0 : FVec F S512x2048 .f32 := (fun l r => Host.dotGeneral dot_S512x2048_S2048x2048_S512x2048_1_0_0_1_n_n none l r) main_arg0 main_arg1
  let main_v1 : FVec F S512x2048 .f32 := Host.absf main_v0
  let main_cst : FVec F S_ .f32 := constant S_ .f32 0x42700000#32
  let main_v2 : FVec F S512x2048 .f32 := broadcastInDim S512x2048 ![] bcast_S_S512x2048 main_cst
  let main_v3 : IVec S512x2048 1 := cmpf .ole main_v1 main_v2
  main_v3
-- ==== Pre_within_clip_ReferenceIdeal.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_v1 : FVec F S2048x2048 .f32 := Host.absf main_v0
  let main_cst : FVec F S_ .f32 := constant S_ .f32 0x42700000#32
  let main_v2 : FVec F S2048x2048 .f32 := broadcastInDim S2048x2048 ![] bcast_S_S2048x2048 main_cst
  let main_v3 : IVec S2048x2048 1 := cmpf .ole main_v1 main_v2
  main_v3
-- ==== Kernel.lean ====
abbrev S512x2048 : Shape := ⟨2, ![512, 2048]⟩
abbrev S2048x2048 : Shape := ⟨2, ![2048, 2048]⟩
abbrev S2048x512 : Shape := ⟨2, ![2048, 512]⟩
abbrev S3x512x512 : Shape := ⟨3, ![3, 512, 512]⟩
abbrev S3 : Shape := ⟨1, ![3]⟩
abbrev S_ : Shape := ⟨0, ![]⟩
abbrev S512x512 : Shape := ⟨2, ![512, 512]⟩
abbrev S1x512x512 : Shape := ⟨3, ![1, 512, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x512, .f32⟩
  | .local _ .vmem, ⟨0, _⟩ => ⟨S512x2048, .f32⟩
  | .local _ .vmem, ⟨1, _⟩ => ⟨S2048x2048, .f32⟩
  | .local _ .vmem, ⟨2, _⟩ => ⟨S2048x512, .f32⟩
  | .local _ .vmem, ⟨3, _⟩ => ⟨S3x512x512, .bf16⟩
  | .local _ .vmem, ⟨4, _⟩ => ⟨S3x512x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c2_i32_28 : BitVec 32) : Fin 2 → Nat :=
  let c0_35 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v45 : BitVec 32 := Scalar.addi v2 c2_i32_28
  let c4_i32_29 : BitVec 32 := 4#32
  let c0_i32_30 : BitVec 32 := 0#32
  let v46 : BitVec 1 := Scalar.cmpi .eq c4_i32_29 c0_i32_30
  let c1_i32_31 : BitVec 32 := 1#32
  let v47 : BitVec 32 := Scalar.select v46 c1_i32_31 c4_i32_29
  let v48 : BitVec 32 := Scalar.remsi v45 v47
  let c0_i32_33 : BitVec 32 := 0#32
  let v50 : BitVec 1 := Scalar.cmpi .slt v48 c0_i32_33
  let c0_i32_34 : BitVec 32 := 0#32
  let v51 : BitVec 1 := Scalar.cmpi .slt v47 c0_i32_34
  let v52 : BitVec 1 := Scalar.xori v50 v51
  let c0_i32_32 : BitVec 32 := 0#32
  let v49 : BitVec 1 := Scalar.cmpi .ne v48 c0_i32_32
  let v53 : BitVec 1 := Scalar.andi v52 v49
  let v54 : BitVec 32 := Scalar.addi v48 v47
  let v55 : BitVec 32 := Scalar.select v53 v54 v48
  let c512_i32 : BitVec 32 := 512#32
  let v56 : BitVec 32 := Scalar.muli v55 c512_i32
  let v57 : Index := Scalar.indexCast v56
  ![0, v57.toNat]
def k0_dev4 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_39 : BitVec 32 := 2#32
  let v67 : BitVec 32 := Scalar.addi v2 c2_i32_39
  let c4_i32_40 : BitVec 32 := 4#32
  let c0_i32_41 : BitVec 32 := 0#32
  let v68 : BitVec 1 := Scalar.cmpi .eq c4_i32_40 c0_i32_41
  let c1_i32_42 : BitVec 32 := 1#32
  let v69 : BitVec 32 := Scalar.select v68 c1_i32_42 c4_i32_40
  let v70 : BitVec 32 := Scalar.remsi v67 v69
  let c0_i32_44 : BitVec 32 := 0#32
  let v72 : BitVec 1 := Scalar.cmpi .slt v70 c0_i32_44
  let c0_i32_45 : BitVec 32 := 0#32
  let v73 : BitVec 1 := Scalar.cmpi .slt v69 c0_i32_45
  let v74 : BitVec 1 := Scalar.xori v72 v73
  let c0_i32_43 : BitVec 32 := 0#32
  let v71 : BitVec 1 := Scalar.cmpi .ne v70 c0_i32_43
  let v75 : BitVec 1 := Scalar.andi v74 v71
  let v76 : BitVec 32 := Scalar.addi v70 v69
  let v77 : BitVec 32 := Scalar.select v75 v76 v70
  let c1_i32_50 : BitVec 32 := 1#32
  let v78 : BitVec 32 := Scalar.muli v77 c1_i32_50
  let v79 : BitVec 32 := Scalar.addi c0_i32_51 v78
  v79.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_69 : BitVec 32 := 1#32
  let v110 : BitVec 32 := Scalar.addi v2 c1_i32_69
  let c4_i32_70 : BitVec 32 := 4#32
  let c0_i32_71 : BitVec 32 := 0#32
  let v111 : BitVec 1 := Scalar.cmpi .eq c4_i32_70 c0_i32_71
  let c1_i32_72 : BitVec 32 := 1#32
  let v112 : BitVec 32 := Scalar.select v111 c1_i32_72 c4_i32_70
  let v113 : BitVec 32 := Scalar.remsi v110 v112
  let c0_i32_74 : BitVec 32 := 0#32
  let v115 : BitVec 1 := Scalar.cmpi .slt v113 c0_i32_74
  let c0_i32_75 : BitVec 32 := 0#32
  let v116 : BitVec 1 := Scalar.cmpi .slt v112 c0_i32_75
  let v117 : BitVec 1 := Scalar.xori v115 v116
  let c0_i32_73 : BitVec 32 := 0#32
  let v114 : BitVec 1 := Scalar.cmpi .ne v113 c0_i32_73
  let v118 : BitVec 1 := Scalar.andi v117 v114
  let v119 : BitVec 32 := Scalar.addi v113 v112
  let v120 : BitVec 32 := Scalar.select v118 v119 v113
  let c1_i32_80 : BitVec 32 := 1#32
  let v121 : BitVec 32 := Scalar.muli v120 c1_i32_80
  let v122 : BitVec 32 := Scalar.addi c0_i32_81 v121
  v122.toNat
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_98 : BitVec 32 := 3#32
  let v153 : BitVec 32 := Scalar.addi v2 c3_i32_98
  let c4_i32_99 : BitVec 32 := 4#32
  let c0_i32_100 : BitVec 32 := 0#32
  let v154 : BitVec 1 := Scalar.cmpi .eq c4_i32_99 c0_i32_100
  let c1_i32_101 : BitVec 32 := 1#32
  let v155 : BitVec 32 := Scalar.select v154 c1_i32_101 c4_i32_99
  let v156 : BitVec 32 := Scalar.remsi v153 v155
  let c0_i32_103 : BitVec 32 := 0#32
  let v158 : BitVec 1 := Scalar.cmpi .slt v156 c0_i32_103
  let c0_i32_104 : BitVec 32 := 0#32
  let v159 : BitVec 1 := Scalar.cmpi .slt v155 c0_i32_104
  let v160 : BitVec 1 := Scalar.xori v158 v159
  let c0_i32_102 : BitVec 32 := 0#32
  let v157 : BitVec 1 := Scalar.cmpi .ne v156 c0_i32_102
  let v161 : BitVec 1 := Scalar.andi v160 v157
  let v162 : BitVec 32 := Scalar.addi v156 v155
  let v163 : BitVec 32 := Scalar.select v161 v162 v156
  let c1_i32_109 : BitVec 32 := 1#32
  let v164 : BitVec 32 := Scalar.muli v163 c1_i32_109
  let v165 : BitVec 32 := Scalar.addi c0_i32_110 v164
  v165.toNat
def k0_off2 (d0 : Dev nD) : Fin 2 → Nat :=
  let c0_116 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_115 : BitVec 32 := 512#32
  let v174 : BitVec 32 := Scalar.muli v2 c512_i32_115
  let v175 : Index := Scalar.indexCast v174
  ![0, v175.toNat]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_118 : BitVec 32 := 512#32
  let v181 : BitVec 32 := Scalar.muli v2 c512_i32_118
  let v182 : Index := Scalar.indexCast v181
  let c0_119 : Index := 0#32
  ![v182.toNat, 0]
def k0_off4 (d0 : Dev nD) (c1_i32_130 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v192 : BitVec 32 := Scalar.subi v2 c1_i32_130
  let c4_i32_131 : BitVec 32 := 4#32
  let c0_i32_132 : BitVec 32 := 0#32
  let v193 : BitVec 1 := Scalar.cmpi .eq c4_i32_131 c0_i32_132
  let c1_i32_133 : BitVec 32 := 1#32
  let v194 : BitVec 32 := Scalar.select v193 c1_i32_133 c4_i32_131
  let v195 : BitVec 32 := Scalar.remsi v192 v194
  let c0_i32_135 : BitVec 32 := 0#32
  let v197 : BitVec 1 := Scalar.cmpi .slt v195 c0_i32_135
  let c0_i32_136 : BitVec 32 := 0#32
  let v198 : BitVec 1 := Scalar.cmpi .slt v194 c0_i32_136
  let v199 : BitVec 1 := Scalar.xori v197 v198
  let c0_i32_134 : BitVec 32 := 0#32
  let v196 : BitVec 1 := Scalar.cmpi .ne v195 c0_i32_134
  let v200 : BitVec 1 := Scalar.andi v199 v196
  let v201 : BitVec 32 := Scalar.addi v195 v194
  let v202 : BitVec 32 := Scalar.select v200 v201 v195
  let c512_i32_140 : BitVec 32 := 512#32
  let v206 : BitVec 32 := Scalar.muli v202 c512_i32_140
  let v207 : Index := Scalar.indexCast v206
  let c0_141 : Index := 0#32
  ![v207.toNat, 0]
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Devices.lean ====
/-
# The four devices: who sends to whom, and at which offsets

Device `c` sends its chunk number `j` (for `j = 0, 1, 2`) to the device `j + 1` places after it on the ring of four,
`hop j c`. The device `j + 1` places BEFORE `c`, from which it receives its chunk number `j`, is `hop j.rev c`. This
module says so of the device numbers and of the window offsets which the kernel computes.
-/
module

public import proofs.«01_k».proof.Proof.Gen.KernelIdeal
public import proofs.«01_k».proof.Proof.Gen.KernelIdeal.Skeleton
public import proofs.«01_k».proof.Proof.Gen.KernelIdeal.Launch

@[expose] public section

namespace Cert.Exchange

open Cert.KernelIdeal Cert.KernelIdeal.Gen
open Idealize.ShloMosaic

/-- The device `j + 1` places after `c`. -/
def hop (j : Fin 3) (c : Dev nD) : Dev nD := ⟨(c.val + (j.val + 1)) % 4, Nat.mod_lt _ (by decide)⟩

/-- Going `j + 1` places on, then `3 - j` places on, comes round to the start. -/
theorem hop_rev_hop (j : Fin 3) (c : Dev nD) : hop j.rev (hop j c) = c := by
  revert j c; decide

/-- and the other way round. -/
theorem hop_hop_rev (j : Fin 3) (c : Dev nD) : hop j (hop j.rev c) = c := by
  revert j c; decide

/-- No device is its own partner. -/
theorem hop_ne (j : Fin 3) (c : Dev nD) : hop j c ≠ c := by
  revert j c; decide

/-- The three partners of a device are distinct. -/
theorem hop_left_inj {j k : Fin 3} {c : Dev nD} (h : hop j c = hop k c) : j = k := by
  revert j k c; decide

/-- Every device other than `c` is one of its partners. -/
theorem exists_hop {c d : Dev nD} (h : d ≠ c) : ∃ j : Fin 3, d = hop j c := by
  revert c d; decide

/-- "`j + 1` places on" as a permutation of the devices. -/
def hopEquiv (j : Fin 3) : Dev nD ≃ Dev nD where
  toFun := hop j
  invFun := hop j.rev
  left_inv := hop_rev_hop j
  right_inv := hop_hop_rev j

/-! ## The kernel's device numbers -/

theorem dev1_eq (c : Dev nD) : (⟨k0_dev1 c, k0_dev1_lt c⟩ : Dev nD) = hop 0 c := by revert c; decide +kernel
theorem dev2_eq (c : Dev nD) : (⟨k0_dev2 c, k0_dev2_lt c⟩ : Dev nD) = hop 1 c := by revert c; decide +kernel
theorem dev3_eq (c : Dev nD) : (⟨k0_dev3 c, k0_dev3_lt c⟩ : Dev nD) = hop 2 c := by revert c; decide +kernel
theorem dev4_eq (c : Dev nD) : (⟨k0_dev4 c, k0_dev4_lt c⟩ : Dev nD) = hop 1 c := by revert c; decide +kernel
theorem dev5_eq (c : Dev nD) : (⟨k0_dev5 c, k0_dev5_lt c⟩ : Dev nD) = hop 0 c := by revert c; decide +kernel
theorem dev6_eq (c : Dev nD) : (⟨k0_dev6 c, k0_dev6_lt c⟩ : Dev nD) = hop 2 c := by revert c; decide +kernel

/-! ## The kernel's window offsets -/

/-- The columns of `w` that make the chunk for the device `j + 1` places on are that device's. -/
theorem off1_eq (c : Dev nD) (j : Fin 3) :
    k0_off1 c (BitVec.ofNat 32 (1 + j.val)) = ![0, 512 * (hop j c).val] := by revert c j; decide +kernel

/-- The rows of the result where the chunk received from the device `j + 1` places back goes are that device's. -/
theorem off4_eq (c : Dev nD) (j : Fin 3) :
    k0_off4 c (BitVec.ofNat 32 (1 + j.val)) = ![512 * (hop j.rev c).val, 0] := by revert c j; decide +kernel

end Cert.Exchange
-- ==== Proof.Slots.lean ====
/-
# The slots of the two scratch buffers, and the row blocks of the result

Each scratch buffer holds three blocks of 512 by 512 elements, one per outgoing (first scratch buffer) or incoming
(second scratch buffer) chunk. Here: the slots as memrefs, that the three of a buffer are disjoint and cover it, what
is read from a slot after a chunk was stored in a sender's slot and copied over, and what the result holds after a
block of 512 rows was stored.
-/
module

public import proofs.«01_k».proof.Proof.Devices
public import Idealize.ShloMosaic.Lib.Pipeline.Launch
public import Idealize.ShloMosaic.Lib.Pipeline.Kit
public import Idealize.ShloMosaic.Lib.Pipeline.ValueKit.Geometry
public import Idealize.ShloMosaic.Lib.ViewIndex
public import Idealize.ShloMosaic.Lib.ValueIdxCore
public import Idealize.ShloMosaic.Lib.Tactic

@[expose] public section

noncomputable section

namespace Cert.Exchange

open Cert.KernelIdeal Cert.KernelIdeal.Gen
open Idealize.ShloMosaic
open Idealize.ShloMosaic.ValueIdx Idealize.ShloMosaic.ValueKit

variable {F : FTy → Type}

abbrev xM : Memref sig .tc .vmem S512x2048 .f32 := Memref.whole cc0_stg0_0
abbrev wM : Memref sig .tc .vmem S2048x2048 .f32 := Memref.whole cc0_stg1_0
abbrev oM : Memref sig .tc .vmem S2048x512 .f32 := Memref.whole cc0_stg2_0
abbrev commM : Memref sig .tc .vmem S3x512x512 .bf16 := Memref.whole cc0_scratch0
abbrev recvM : Memref sig .tc .vmem S3x512x512 .bf16 := Memref.whole cc0_scratch1

theorem slot_inb (j : Fin 3) : ∀ a, (![j.val, 0, 0] : Fin 3 → Nat) a + S1x512x512.size a ≤ S3x512x512.size a := by
  revert j; decide

/-- Block `j` of a buffer of three blocks. -/
abbrev slotRect (j : Fin 3) : Rect S3x512x512 := Rect.unit (s := S3x512x512) ![j.val, 0, 0] S1x512x512.size (slot_inb j)

/-- Slot `j` of a scratch buffer, as a matrix. -/
abbrev slotOf (M : Memref sig .tc .vmem S3x512x512 .bf16) (j : Fin 3) : Memref sig .tc .vmem S512x512 .bf16 :=
  (M.slice (slotRect j) (fun _ => rfl)).squeeze S512x512 squeezes_S1x512x512_S512x512

abbrev cSlot (j : Fin 3) : Memref sig .tc .vmem S512x512 .bf16 := slotOf commM j
abbrev rSlot (j : Fin 3) : Memref sig .tc .vmem S512x512 .bf16 := slotOf recvM j

/-! ## The elements of a slot -/

theorem cSlot_set (j : Fin 3) : (cSlot j).view.set = (slotRect j).set :=
  (View.set_reshape (v := (View.whole cc0_scratch0).slice (slotRect j)) _).trans (View.set_slice_whole cc0_scratch0 (slotRect j))

theorem rSlot_set (j : Fin 3) : (rSlot j).view.set = (slotRect j).set :=
  (View.set_reshape (v := (View.whole cc0_scratch1).slice (slotRect j)) _).trans (View.set_slice_whole cc0_scratch1 (slotRect j))

/-- An element of a scratch buffer is in slot `j` exactly if its first coordinate is `j`. -/
theorem mem_slotRect (j : Fin 3) (i : S3x512x512.Idx) : i ∈ (slotRect j).set ↔ (i 0).val = j.val := by
  rw [Rect.mem_set_unit]
  constructor
  · intro h
    have h0 := h 0
    simp [S1x512x512] at h0
    omega
  · intro h a
    have := (i a).isLt
    fin_cases a <;> simp [S1x512x512, S3x512x512] at this ⊢ <;> omega

theorem slots_disjoint (j k : Fin 3) (h : j ≠ k) : Disjoint (slotRect j).set (slotRect k).set := by
  rw [Finset.disjoint_left]
  intro i hj hk
  rw [mem_slotRect] at hj hk
  exact h (Fin.ext (hj.symm.trans hk))

theorem slots_cover : (Finset.univ : Finset (Fin 3)).biUnion (fun j => (slotRect j).set) = Finset.univ := by
  ext i
  simp only [Finset.mem_biUnion, Finset.mem_univ, true_and, iff_true]
  exact ⟨⟨(i 0).val, (i 0).isLt⟩, (mem_slotRect _ i).mpr rfl⟩

/-! ## A chunk on its way -/

/-- A chunk stored in the sender's slot and copied into the receiver's slot is read there as it was stored. -/
theorem read_landed (j : Fin 3) (fd : (cc0_scratch1 : Ref sig .tc).ty.Contents (Elt F))
    (f : (cc0_scratch0 : Ref sig .tc).ty.Contents (Elt F)) (w : (slotRect j).shape.Idx → Elt F .bf16) :
    recvM.view.readAt (Elt F) (slotRect j).toLoadRect
      ((rSlot j).view.write (Elt F) fd
        ((cSlot j).view.read (Elt F) ((commM.access (slotRect j)).write (Elt F) f w Finset.univ)) Finset.univ) = w := by
  have hc : ∀ y, (cSlot j).view.read (Elt F) ((commM.access (slotRect j)).write (Elt F) f w Finset.univ) y
      = w (Shape.reshapeEquiv squeezes_S1x512x512_S512x512.numel_eq y) := fun y =>
    congrFun (View.read_write_univ (v := commM.access (slotRect j)) f w) _
  rw [View.readAt_rect]
  funext x
  obtain ⟨y, rfl⟩ := (Shape.reshapeEquiv squeezes_S1x512x512_S512x512.numel_eq).surjective x
  exact (View.read_write_reshape (recvM.view.slice (slotRect j)) squeezes_S1x512x512_S512x512.numel_eq fd _ y).trans (hc y)

/-! ## A block of rows of the result -/

/-- The place of an element of the result in its block of 512 rows. -/
def inBlock (i : S2048x512.Idx) : S512x512.Idx := ix2 (⟨(i 0).val % 512, Nat.mod_lt _ (by decide)⟩ : Fin 512) (i 1)

/-- After block `s` of 512 rows was stored, its elements are what was stored, the others what they were. -/
theorem write_rows (off : Fin 2 → Nat) (inb : ∀ a, off a + S512x512.size a ≤ S2048x512.size a) (s : Fin 4)
    (hoff : off = ![512 * s.val, 0]) (f : (cc0_stg2_0 : Ref sig .tc).ty.Contents (Elt F)) (w : S512x512.Idx → Elt F .f32)
    (i : S2048x512.Idx) :
    (oM.access (Rect.unit (s := S2048x512) off S512x512.size inb)).write (Elt F) f w Finset.univ i
      = if (i 0).val / 512 = s.val then w (inBlock i) else f i := by
  subst hoff
  have h0 : (i 0).val < 2048 := (i 0).isLt
  have h1 : (i 1).val < 512 := (i 1).isLt
  split
  · rename_i h
    have he : (oM.access (Rect.unit (s := S2048x512) ![512 * s.val, 0] S512x512.size inb)).emb (inBlock i) = i := by
      funext a
      apply Fin.ext
      refine (view_emb_slice_whole_unit_val cc0_stg2_0 _ _ inb (inBlock i) a).trans ?_
      fin_cases a
      · show 512 * s.val + (i 0).val % 512 = (i 0).val
        omega
      · show 0 + (i 1).val = (i 1).val
        omega
    conv_lhs => rw [← he]
    exact View.write_emb_of_mem _ _ (Finset.mem_univ _)
  · rename_i h
    refine View.write_of_not_mem _ _ _ ?_
    rw [View.setOn_univ]
    intro hm
    obtain ⟨x, hx⟩ := View.exists_of_mem_set_slice hm
    have hv := (view_emb_slice_whole_unit_val cc0_stg2_0 _ _ inb x 0)
    have hx0 : (x 0).val < 512 := (x 0).isLt
    have : (i 0).val = 512 * s.val + (x 0).val := by rw [← hx]; exact hv
    omega

end Cert.Exchange
-- ==== Proof.Schedule.lean ====
/-
# The exchange's protocol: who waits for whom, for how much, and what each signal and each copy hands over

Every device `c` has seven semaphores that matter: its entry barrier, and one send and one receive semaphore for each
of the three chunks. Each is used for ONE round.

* The entry barrier of `c` expects three units, one from each partner. Unit `d` is paid by the device `hop d c`, to
  which `c` sends its chunk `d`; the payment hands `c` the slot `d` of that device's second scratch buffer, in which
  the chunk is to land, at any contents.
* The receive semaphore `j` of `c` expects the bytes of one slot, paid by the copy which the device `hop j.rev c`
  makes of its chunk `j`. The landing hands `c` its slot `j`, which now holds that chunk.
* The send semaphore `j` of `c` expects the same amount, paid when the copy of its own chunk `j` has left; `c` gets
  its slot `j` of the first scratch buffer back.

A device first pays the three barrier units, then waits for its own three, then starts the three copies, and only
after that waits for the three landings and for its own three departures. So barriers are at level 1, landings at level
2, departures at level 0, and every wait is for something that is below all that the waiting device still owes.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's part, and the exchange's, whose duties are numbered by `Fin 3`. -/
abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Semaphores and cells -/

abbrev barS : Sem sig := (SemArray.scalar (sig.barrier 0 rfl) : Sems sig S_).sem
def sendQ (j : Fin 3) : DmaSem sig := (⟨j.val + 3, by have := j.isLt; omega⟩ : Fin 9)
def recvQ (j : Fin 3) : DmaSem sig := (⟨j.val + 6, by have := j.isLt; omega⟩ : Fin 9)

abbrev barCell (c : Dev nD) : GSem nD τ sig := ((c : Thread nD τ), .reg barS)
abbrev sendCell (c : Dev nD) (j : Fin 3) : GSem nD τ sig := ((c : Thread nD τ), .dma (sendQ j))
abbrev recvCell (c : Dev nD) (j : Fin 3) : GSem nD τ sig := ((c : Thread nD τ), .dma (recvQ j))

/-- The chunk number of a send or receive semaphore. -/
def chunkNo (q : DmaSem sig) : Fin 3 := ⟨q.val % 3, Nat.mod_lt _ (by decide)⟩

theorem chunkNo_sendQ (j : Fin 3) : chunkNo (sendQ j) = j := by revert j; decide
theorem chunkNo_recvQ (j : Fin 3) : chunkNo (recvQ j) = j := by revert j; decide

/-- The amount one chunk's copy adds to a semaphore. -/
abbrev N : ℕ := (rSlot 0).view.dmaCredit
theorem N_pos : 0 < N := View.dmaCredit_pos _ (by decide)

/-! ## Contents -/

/-- Device `c`'s block of `x`, and its copy of `w`, as the body finds them. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The columns of `w` that device `c` multiplies by to make its chunk `j`. -/
def wcols (c : Dev nD) (j : Fin 3) : Vec F S2048x512 .f32 :=
  wM.view.readAt (Elt F) (Rect.unit (s := S2048x2048) (k0_off1 c (BitVec.ofNat 32 (1 + j.val))) S2048x512.size (k0_off1_inb c j)).toLoadRect (wstg m ρ c)

/-- The columns of `w` for the block that device `c` keeps. -/
def wown (c : Dev nD) : Vec F S2048x512 .f32 :=
  wM.view.readAt (Elt F) (Rect.unit (s := S2048x2048) (k0_off2 c) S2048x512.size (k0_off2_inb c)).toLoadRect (wstg m ρ c)

/-- Device `c`'s chunk `j`: the block of the activation, rounded, that goes to the device `hop j c`. -/
def chunk (c : Dev nD) (j : Fin 3) : Vec F S1x512x512 .bf16 := k0_pay3 (k0_pay1 (xstg m ρ c)) (wcols m ρ c j)

/-- The block of the activation which device `c` keeps. -/
def kept (c : Dev nD) : Vec F S512x512 .f32 := k0_pay5 (k0_pay1 (xstg m ρ c)) (wown m ρ c)

/-- The block which device `c` gets from the device `hop j.rev c`. -/
def got (c : Dev nD) (j : Fin 3) : Vec F S512x512 .f32 := k0_pay6 (chunk m ρ (hop j.rev c) j)

/-- The kernel's result on device `c`: rows `512 s …` are the block got from device `s`, or the block kept for `s = c`. -/
def outAt (c : Dev nD) : (cc0_stg2_0 : Ref sig .tc).ty.Contents (Elt F) := fun i : S2048x512.Idx =>
  if (i 0).val / 512 = (hop (Fin.rev 1) c).val then got m ρ c 1 (inBlock i)
  else if (i 0).val / 512 = (hop (Fin.rev 2) c).val then got m ρ c 2 (inBlock i)
  else if (i 0).val / 512 = (hop (Fin.rev 0) c).val then got m ρ c 0 (inBlock i)
  else kept m ρ c (inBlock i)

/-- A slot of device `c`, held at contents `f`. -/
def slotPts (c : Dev nD) (M : Memref sig .tc .vmem S512x512 .bf16) (f : Buf (Elt F) (M.view.loc (c : Thread nD τ))) : sProp 𝕄 :=
  M.view.loc (c : Thread nD τ) ↦[M.view.set]{fullShare} f

omit [FloatOps F] in
instance slotPts_storable (c : Dev nD) (M f) : BI.Storable (upEmb : UEmb _ 𝕄) (slotPts (F := F) c M f) := by
  unfold slotPts; infer_instance

/-- What is read from slot `j` of a second scratch buffer with contents `f`. -/
abbrev readSlot (j : Fin 3) (f : (cc0_scratch1 : Ref sig .tc).ty.Contents (Elt F)) : Vec F S1x512x512 .bf16 :=
  recvM.view.readAt (Elt F) (slotRect j).toLoadRect f

/-! ## The schedule -/

/-- Unit `d` of `c`'s barrier hands over slot `d` of the device to which `c` sends chunk `d`. -/
def barPay (c : Dev nD) (d : Fin 3) : sProp 𝕄 := iprop(∃ f, slotPts (hop d c) (rSlot d) f)
/-- The landing of chunk `j` on `c`: the slot, holding the chunk its sender made. -/
def recvPay (c : Dev nD) (j : Fin 3) : sProp 𝕄 := iprop(∃ f, slotPts c (rSlot j) f ∗ ⌜readSlot j f = chunk m ρ (hop j.rev c) j⌝)
/-- The departure of chunk `j`: `c`'s own slot back. -/
def sendPay (c : Dev nD) (j : Fin 3) : sProp 𝕄 := iprop(∃ f, slotPts c (cSlot j) f)

def Rd : Rounds.Schedule (GSem nD τ sig) (Fin 3) 𝕄 where
  duties g r := if r = 0 ∧ g.1.2 = .tc then (match g.2 with
    | .reg _ => Finset.univ
    | .dma q => if 3 ≤ q.val then {0} else ∅) else ∅
  unitless _ := False
  amount g _ _ := match g.2 with
    | .reg _ => 1
    | .dma _ => N
  payload g _ d := match g.2 with
    | .reg _ => barPay g.1.1 d
    | .dma q => if 6 ≤ q.val then recvPay m ρ g.1.1 (chunkNo q) else sendPay g.1.1 (chunkNo q)
  amount_pos g _ _ _ := by
    rcases g with ⟨t, s | q⟩
    · exact Nat.one_pos
    · exact N_pos

instance Rd_payload_storable (g : GSem nD τ sig) (r : ℕ) (d : Fin 3) :
    BI.Storable (upEmb : UEmb _ 𝕄) ((Rd (F := F) m ρ).payload g r d) := by
  rcases g with ⟨t, s | q⟩
  · show BI.Storable upEmb (barPay t.1 d); unfold barPay; infer_instance
  · show BI.Storable upEmb (if 6 ≤ q.val then recvPay m ρ t.1 (chunkNo q) else sendPay t.1 (chunkNo q))
    unfold recvPay sendPay
    split <;> infer_instance

section Sched
variable (c : Dev nD) (j : Fin 3)

theorem sendQ_ge : 3 ≤ (sendQ j).val := by revert j; decide
theorem recvQ_ge : 6 ≤ (recvQ j).val := by revert j; decide
theorem sendQ_lt : ¬ 6 ≤ (sendQ j).val := by revert j; decide

theorem duties_bar : (Rd (F := F) m ρ).duties (barCell c) 0 = Finset.univ := by dsimp only [Rd]; exact if_pos ⟨rfl, rfl⟩
theorem duties_send : (Rd (F := F) m ρ).duties (sendCell c j) 0 = {0} := by
  dsimp only [Rd]; rw [if_pos ⟨rfl, rfl⟩]; exact if_pos (sendQ_ge j)
theorem duties_recv : (Rd (F := F) m ρ).duties (recvCell c j) 0 = {0} := by
  dsimp only [Rd]; rw [if_pos ⟨rfl, rfl⟩]; exact if_pos (le_trans (by decide) (recvQ_ge j))
theorem duties_later (g : GSem nD τ sig) : ∀ r, 1 ≤ r → (Rd (F := F) m ρ).duties g r = ∅ :=
  fun r hr => by dsimp only [Rd]; exact if_neg fun h => by omega

theorem amount_bar (d : Fin 3) : (Rd (F := F) m ρ).amount (barCell c) 0 d = 1 := rfl
theorem amount_send (d : Fin 3) : (Rd (F := F) m ρ).amount (sendCell c j) 0 d = N := rfl
theorem amount_recv (d : Fin 3) : (Rd (F := F) m ρ).amount (recvCell c j) 0 d = N := rfl

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (Rd (F := F) m ρ).expect (sendCell c j) 0 = N := by
  unfold Schedule.expect Schedule.amountOf; rw [duties_send, Finset.sum_singleton, amount_send]
theorem expect_recv : (Rd (F := F) m ρ).expect (recvCell c j) 0 = N := by
  unfold Schedule.expect Schedule.amountOf; rw [duties_recv, Finset.sum_singleton, amount_recv]

theorem payload_bar (d : Fin 3) : (Rd (F := F) m ρ).payload (barCell c) 0 d = barPay c d := rfl
theorem payload_send (d : Fin 3) : (Rd (F := F) m ρ).payload (sendCell c j) 0 d = sendPay c j := by
  dsimp only [Rd]; rw [if_neg (sendQ_lt j), chunkNo_sendQ]
theorem payload_recv (d : Fin 3) : (Rd (F := F) m ρ).payload (recvCell c j) 0 d = recvPay m ρ c j := by
  dsimp only [Rd]; rw [if_pos (recvQ_ge j), chunkNo_recvQ]

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- What the barrier wait brings: the three partners' slots; -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_fin3]; rfl
/-- what the wait for a departure brings; -/
theorem rest_send : bigSep ((Rd (F := F) m ρ).duties (sendCell c j) 0 \ ∅) (fun d => (Rd (F := F) m ρ).payload (sendCell c j) 0 d) = sendPay c j := by
  rw [Finset.sdiff_empty, duties_send, bigSep_singleton, payload_send]
/-- and what the wait for a landing brings. -/
theorem rest_recv : bigSep ((Rd (F := F) m ρ).duties (recvCell c j) 0 \ ∅) (fun d => (Rd (F := F) m ρ).payload (recvCell c j) 0 d) = recvPay m ρ c j := by
  rw [Finset.sdiff_empty, duties_recv, bigSep_singleton, payload_recv]

end Sched

/-! ## What each device owes at launch; the levels -/

abbrev oweBar (c : Dev nD) (j : Fin 3) : CellTallies nD τ sig Unit := tallyAt (barCell (hop j c)) () 1
abbrev oweRecv (c : Dev nD) (j : Fin 3) : CellTallies nD τ sig Unit := tallyAt (recvCell (hop j c) j) () N

/-- What device `c` owes once its three barrier units are paid: the three chunks, the one it sends first written last. -/
def O₁ (c : Dev nD) : CellTallies nD τ sig Unit := oweRecv c 2 + oweRecv c 0 + oweRecv c 1
/-- What it owes at launch: besides, one unit to each partner's barrier. -/
def O₀ (c : Dev nD) : CellTallies nD τ sig Unit := O₁ c + oweBar c 2 + oweBar c 1 + oweBar c 0

def L (g : GSem nD τ sig) : Finset Unit := if g.1.2 = .tc then {()} else ∅
/-- Barriers at level 1, landings at level 2, everything else at level 0. -/
def lv (g : GSem nD τ sig) (_ : Unit) : ℕ := match g.2 with
  | .reg _ => 1
  | .dma q => if 6 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- All that is owed in `O` is owed to cells above level `n`. -/
def Above (n : ℕ) (O : CellTallies nD τ sig Unit) : Prop := ∀ g u, 0 < O g u → g.1.2 = .tc ∧ n < lv g u

theorem Above.add {n : ℕ} {O O' : CellTallies nD τ sig Unit} (h : Above n O) (h' : Above n O') : Above n (O + O') := by
  intro g u hg
  rw [Pi.add_apply, Finsupp.add_apply] at hg
  by_cases h0 : 0 < O g u
  · exact h g u h0
  · exact h' g u (by omega)

theorem Above.tally {n : ℕ} (g : GSem nD τ sig) (k : ℕ) (h : g.1.2 = .tc ∧ n < lv g ()) : Above n (tallyAt g () k) := by
  intro g' u hg
  rw [tallyAt_apply] at hg
  by_cases he : g' = g ∧ u = ()
  · rw [he.1]; exact h
  · rw [if_neg he] at hg; exact absurd hg (Nat.lt_irrefl 0)

theorem above_recv {n : ℕ} (hn : n < 2) (c : Dev nD) (j : Fin 3) : Above n (oweRecv c j) :=
  .tally _ _ ⟨rfl, by show n < if 6 ≤ (recvQ j).val then 2 else 0; rw [if_pos (recvQ_ge j)]; exact hn⟩
theorem above_bar (c : Dev nD) (j : Fin 3) : Above 0 (oweBar c j) := .tally _ _ ⟨rfl, Nat.one_pos⟩
theorem above_O₁ {n : ℕ} (hn : n < 2) (c : Dev nD) : Above n (O₁ c) :=
  ((above_recv hn c 2).add (above_recv hn c 0)).add (above_recv hn c 1)
theorem above_O₀ (c : Dev nD) : Above 0 (O₀ c) :=
  (((above_O₁ (by decide) c).add (above_bar c 2)).add (above_bar c 1)).add (above_bar c 0)

/-- A device may wait at a cell of level `n` while all that it owes lies above. -/
theorem mayWait_of_above {n : ℕ} (c : Dev nD) (sm : SemLoc sig) (O : CellTallies nD τ sig Unit)
    (hsm : lv ((c : Thread nD τ), sm) () ≤ n) (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem mayWait_stage (c : Dev nD) (q : DmaSem sig) (hq : ¬ 6 ≤ q.val) (O : CellTallies nD τ sig Unit) (hO : O = O₀ c ∨ O = 0) :
    (levAts L lv : sProp 𝕄) ⊢ MayWait (c : Thread nD τ) (.dma q) () O := by
  rcases hO with rfl | rfl
  · exact mayWait_of_above c _ _ (by show (if 6 ≤ q.val then 2 else 0) ≤ 0; rw [if_neg hq]) (above_O₀ c)
  · rw [MayWait_zero]; iintro -; iempintro

theorem mayWait_bar (c : Dev nD) : (levAts L lv : sProp 𝕄) ⊢ MayWait (c : Thread nD τ) (.reg barS) () (O₁ c) :=
  mayWait_of_above (n := 1) c _ _ le_rfl (above_O₁ (by decide) c)

/-! ## The ghost state a device starts from -/

/-- The seven semaphores, numbered: the barrier, the three send, the three receive semaphores. -/
abbrev csem : Fin 7 → SemLoc sig
  | ⟨0, _⟩ => .reg barS
  | ⟨k + 1, h⟩ => .dma (⟨k + 3, by omega⟩ : Fin 9)
abbrev kcell (ck : Dev nD × Fin 7) : GSem nD τ sig := ((ck.1 : Thread nD τ), csem ck.2)
abbrev sIx (j : Fin 3) : Fin 7 := ⟨j.val + 1, by have := j.isLt; omega⟩
abbrev rIx (j : Fin 3) : Fin 7 := ⟨j.val + 4, by have := j.isLt; omega⟩

theorem kcell_send (c : Dev nD) (j : Fin 3) : kcell (c, sIx j) = sendCell c j := rfl
theorem kcell_recv (c : Dev nD) (j : Fin 3) : kcell (c, rIx j) = recvCell c j := rfl

/-- Every cell's invariant, under the names `K`, and that every cell has reached its round. -/
def records (K : Dev nD × Fin 7 → ℕ) : sProp 𝕄 :=
  bigSep Finset.univ fun ck : Dev nD × Fin 7 => iprop(cellInv ER (Rd m ρ) (K ck) (kcell ck) ∗ reached ER (kcell ck) 0)

instance records_persistent (K : Dev nD × Fin 7 → ℕ) : BI.Persistent (records (F := F) m ρ K) := by
  unfold records; infer_instance

theorem records_at (K : Dev nD × Fin 7 → ℕ) (ck : Dev nD × Fin 7) :
    records (F := F) m ρ K ⊢ iprop(cellInv ER (Rd m ρ) (K ck) (kcell ck) ∗ reached ER (kcell ck) 0) :=
  bigSep_elim (Finset.mem_univ ck)

/-- Device `c`'s positions at the send and receive cells of chunk `j`, and the tokens with which it pays for chunk `j`: at
    its partner's barrier, at its partner's receive cell, and at its own send cell. -/
def perChunk (c : Dev nD) (j : Fin 3) : sProp 𝕄 :=
  iprop(atPos ER (sendCell c j) 0 ∅ 0 ∗ atPos ER (recvCell c j) 0 ∅ 0
    ∗ dutyTok ER (barCell (hop j c)) 0 j.rev ∗ dutyTok ER (recvCell (hop j c) j) 0 0 ∗ dutyTok ER (sendCell c j) 0 0)

def ghost (K : Dev nD × Fin 7 → ℕ) (c : Dev nD) : sProp 𝕄 :=
  iprop(records m ρ K ∗ atPos ER (barCell c) 0 ∅ 0 ∗ bigSep Finset.univ (perChunk (F := F) c))

/-- The credit device `c` starts with: three units of its barrier, a chunk's amount of each receive semaphore. -/
def credits (c : Dev nD) : sProp 𝕄 :=
  iprop(cred (tallyAt (barCell c) () 3) ∗ bigSep Finset.univ fun j : Fin 3 => cred (tallyAt (recvCell c j) () N))

def start (c : Dev nD) : sProp 𝕄 := iprop((∃ K, ghost m ρ K c) ∗ credits c ∗ levAts L lv)

/-- The two scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratch c)
/-- After the body: the scratch buffers, and all seven counters at zero. -/
def Φ₁ (c : Dev nD) : sProp 𝕄 :=
  iprop(scratch c ∗ (bigSep Finset.univ fun j : Fin 3 => iprop(semVal (sendCell c j) 0 ∗ semVal (recvCell c j) 0)) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.Exchange
-- ==== Proof.Steps.lean ====
/-
# The steps of the exchange

The effects that touch other devices, one lemma each, at a symbolic device `c` and a symbolic chunk number: paying a
partner's barrier, the barrier wait, starting a copy, waiting for a landing and for a departure. Also how a scratch
buffer is cut into its three slots and put together again.
-/
module

public import proofs.«01_k».proof.Proof.Schedule
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## A scratch buffer and its slots -/

theorem cSlotPts_eq (c : Dev nD) (j : Fin 3) (f : Buf (Elt F) ((c : Thread nD τ).loc cc0_scratch0)) :
    slotPts c (cSlot j) f = (((c : Thread nD τ).loc cc0_scratch0) ↦[(slotRect j).set]{fullShare} f : sProp 𝕄) :=
  congrArg (fun S : Finset (Idx ((c : Thread nD τ).loc cc0_scratch0)) => (((c : Thread nD τ).loc cc0_scratch0) ↦[S]{fullShare} f : sProp 𝕄)) (cSlot_set j)

theorem rSlotPts_eq (c : Dev nD) (j : Fin 3) (f : Buf (Elt F) ((c : Thread nD τ).loc cc0_scratch1)) :
    slotPts c (rSlot j) f = (((c : Thread nD τ).loc cc0_scratch1) ↦[(slotRect j).set]{fullShare} f : sProp 𝕄) :=
  congrArg (fun S : Finset (Idx ((c : Thread nD τ).loc cc0_scratch1)) => (((c : Thread nD τ).loc cc0_scratch1) ↦[S]{fullShare} f : sProp 𝕄)) (rSlot_set j)

/-- The scratch buffers are their six slots, -/
theorem scratch_split (c : Dev nD) :
    scratch (F := F) c ⊢ iprop(((∃ f, slotPts c (cSlot 0) f) ∗ (∃ f, slotPts c (cSlot 1) f) ∗ ∃ f, slotPts c (cSlot 2) f)
      ∗ ((∃ f, slotPts c (rSlot 0) f) ∗ (∃ f, slotPts c (rSlot 1) f) ∗ ∃ f, slotPts c (rSlot 2) f)) := by
  unfold scratch
  iintro ⟨HC, HR⟩
  isplitl [HC]
  · iapply (Ring.slots3_split (ℓ := (c : Thread nD τ).loc cc0_scratch0) (fun j => (slotRect j).set) slots_disjoint slots_cover
      _ _ _ (cSlotPts_eq c 0) (cSlotPts_eq c 1) (cSlotPts_eq c 2)); iexact HC
  · iapply (Ring.slots3_split (ℓ := (c : Thread nD τ).loc cc0_scratch1) (fun j => (slotRect j).set) slots_disjoint slots_cover
      _ _ _ (rSlotPts_eq c 0) (rSlotPts_eq c 1) (rSlotPts_eq c 2)); iexact HR

/-- and the six slots are the scratch buffers. -/
theorem scratch_join (c : Dev nD) :
    iprop(((∃ f, slotPts c (cSlot 0) f) ∗ (∃ f, slotPts c (cSlot 1) f) ∗ ∃ f, slotPts c (cSlot 2) f)
      ∗ ((∃ f, slotPts c (rSlot 0) f) ∗ (∃ f, slotPts c (rSlot 1) f) ∗ ∃ f, slotPts c (rSlot 2) f)) ⊢ scratch (F := F) c := by
  unfold scratch
  iintro ⟨HC, HR⟩
  isplitl [HC]
  · iapply (Ring.slots3_join (ℓ := (c : Thread nD τ).loc cc0_scratch0) (fun j => (slotRect j).set) slots_disjoint slots_cover
      _ _ _ (cSlotPts_eq c 0) (cSlotPts_eq c 1) (cSlotPts_eq c 2)); iexact HC
  · iapply (Ring.slots3_join (ℓ := (c : Thread nD τ).loc cc0_scratch1) (fun j => (slotRect j).set) slots_disjoint slots_cover
      _ _ _ (rSlotPts_eq c 0) (rSlotPts_eq c 1) (rSlotPts_eq c 2)); iexact HR

/-! ## The steps -/

section Steps

variable (K : Dev nD × Fin 7 → ℕ) (c : Dev nD)

/-- Paying one unit to the barrier of the partner `j + 1` places on, with the slot into which that partner's chunk for
    this device is to land. -/
theorem step_signal {α : Type} {Q : α → sProp 𝕄}
    {k : PUnit → Prog (TpuEff nD τ sig (Elt F) Λ₀ .tc) α} (j : Fin 3) (n : Dev nD) (hn : n = hop j c) (z : ℤ) (hz : z = ((1 : ℕ) : ℤ)) (O : CellTallies nD τ sig Unit) (W : Waits sig Unit) :
    iprop(records m ρ K ∗ owes (c : Thread nD τ) (O + oweBar c j) W ∗ dutyTok ER (barCell (hop j c)) 0 j.rev ∗ ∃ f, slotPts c (rSlot j.rev) f)
      ⊢ iprop((owes (c : Thread nD τ) O W -∗ wp frame (wpE (defs₀ (F := F)) 𝒱₀ (c : Thread nD τ) none) Set.univ (k ⟨⟩) Q) -∗ wp frame (wpE (defs₀ (F := F)) 𝒱₀ (c : Thread nD τ) none) Set.univ (.op (.semSignal ((n, .tc) : Thread nD τ) barS z) k) Q) := by
  subst hn hz
  iintro ⟨#Hrec, HO, Ht, Hs⟩
  ihave Hr := (records_at m ρ K (hop j c, 0)) $$ Hrec
  icases Hr with ⟨#HI, #HR⟩
  iapply (Rounds.wp_signal 𝒱₀ ER (Rd m ρ) (c : Thread nD τ) none (dst := (hop j c : Thread nD τ)) (κ := K (hop j c, 0))
    (d := j.rev) (by rw [duties_bar]; exact Finset.mem_univ _) (amount_bar m ρ (hop j c) j.rev) () O rfl)
  isplitr; · iexact HI
  isplitl [HO]; · iexact HO
  isplitl [Ht]; · iexact Ht
  isplitl [Hs]
  · rw [payload_bar]; unfold barPay; rw [hop_rev_hop]; iexact Hs
  iexact HR

/-- The wait for the three units of its own barrier: the partners' slots for this device's chunks. -/
theorem step_barrier {α : Type} {Q : α → sProp 𝕄}
    {k : PUnit → Prog (TpuEff nD τ sig (Elt F) Λ₀ .tc) α} (z : ℤ) (hz : z = ((3 : ℕ) : ℤ)) (W : Waits sig Unit) :
    iprop(records m ρ K ∗ levAts L lv ∗ cred (tallyAt (barCell c) () 3) ∗ owes (c : Thread nD τ) (O₁ c) W ∗ atPos ER (barCell c) 0 ∅ 0)
      ⊢ iprop(((∃ W', owes (c : Thread nD τ) (O₁ c) W') ∗ semVal (barCell c) 0
            ∗ (∃ f, slotPts (hop 0 c) (rSlot 0) f) ∗ (∃ f, slotPts (hop 1 c) (rSlot 1) f) ∗ (∃ f, slotPts (hop 2 c) (rSlot 2) f) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS z) k) Q) := by
  subst hz
  iintro ⟨#Hrec, #Hlev, Hc, HO, Hat⟩ Hk
  ihave Hr := (records_at m ρ K (c, 0)) $$ Hrec
  icases Hr with ⟨#HI, -⟩
  iapply (Rounds.wp_wait_rest_token 𝒱₀ ER (Rd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (Rd m ρ) (Set.mem_univ (K (c, 0))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- Starting the copy of chunk `j`, stored in this device's slot, into the partner's slot. -/
theorem step_send {α : Type} {Q : α → sProp 𝕄}
    {k : PUnit → Prog (TpuEff nD τ sig (Elt F) Λ₀ .tc) α} (j : Fin 3) (n : Dev nD) (hn : n = hop j c)
    {src : Memref sig .tc .vmem S512x512 .bf16} {dst : Memref sig (Dev.tc n : Thread nD τ).2.kind .vmem S512x512 .bf16} {sS sR : DmaSem sig}
    (hsrc' : src = cSlot j) (hdst' : dst = rSlot j) (hS : sS = sendQ j) (hR : sR = recvQ j)
    {hsc : dst.view.ref.isScScratch = false} {hsrc : src.view.WordExact} {hdst : dst.view.WordExact}
    {hsem : DmaTarget.Typed .vmem (.dma sR) (.remote (Dev.tc n : Thread nD τ) dst (.dma sS) hsc)}
    (f : (cc0_scratch0 : Ref sig .tc).ty.Contents (Elt F)) (O : CellTallies nD τ sig Unit) (W : Waits sig Unit) :
    iprop(records m ρ K ∗ slotPts c (cSlot j) ((commM.access (slotRect j)).write (Elt F) f (chunk m ρ c j) Finset.univ)
        ∗ (∃ fd, slotPts (hop j c) (rSlot j) fd) ∗ owes (c : Thread nD τ) (O + oweRecv c j) W
        ∗ dutyTok ER (recvCell (hop j c) j) 0 0 ∗ dutyTok ER (sendCell c j) 0 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc n : Thread nD τ) dst (.dma sS) hsc) (.dma sR) hsrc hdst hsem) k) Q) := by
  subst hn hsrc' hdst' hS hR
  iintro ⟨#Hrec, Hs, ⟨%fd, Hd⟩, HO, HtR, HtS⟩
  ihave Hr := (records_at m ρ K (c, sIx j)) $$ Hrec
  icases Hr with ⟨#HIs, #HRs⟩
  ihave Hr := (records_at m ρ K (hop j c, rIx j)) $$ Hrec
  icases Hr with ⟨#HIr, #HRr⟩
  unfold slotPts
  iapply (Rounds.wp_send_pointsTo 𝒱₀ ER (Rd m ρ) (c : Thread nD τ) none (κ₁ := K (c, sIx j)) (κ₂ := K (hop j c, rIx j))
    (r₁ := 0) (r₂ := 0) (d₁ := 0) (d₂ := 0)
    (fs := (commM.access (slotRect j)).write (Elt F) f (chunk m ρ c j) Finset.univ) (fd := fd)
    (by rw [duties_send]; exact Finset.mem_singleton_self _) (by rw [duties_recv]; exact Finset.mem_singleton_self _)
    () () N rfl (amount_send m ρ c j 0) (amount_recv m ρ (hop j c) j 0) O rfl (W := W)
    (by rw [payload_send]; unfold sendPay slotPts; iintro H; iexists _; iexact H)
    (by
      rw [payload_recv]; unfold recvPay slotPts
      rw [hop_rev_hop]
      iintro H
      iexists _
      isplitl [H]; · iexact H
      ipureintro
      exact read_landed j fd f (chunk m ρ c j)))
  isplitr; · iexact HIs
  isplitr; · iexact HIr
  isplitl [Hs]; · iexact Hs
  isplitl [Hd]; · iexact Hd
  isplitl [HO]; · iexact HO
  isplitl [HtS]; · iexact HtS
  isplitr; · iexact HRs
  isplitl [HtR]; · iexact HtR
  iexact HRr

/-- A wait at one of the seven cells by a device that owes nothing any more: what the round hands over, and the counter
    back at zero. -/
theorem step_wait {α : Type} {Q : α → sProp 𝕄}
    {k : PUnit → Prog (TpuEff nD τ sig (Elt F) Λ₀ .tc) α} (ix : Fin 7) {op : TpuEff nD τ sig (Elt F) Λ₀ .tc PUnit} {n : ℕ}
    (hw : ∀ R : PUnit → sProp 𝕄, wpE (defs₀ (F := F)) 𝒱₀ (c : Thread nD τ) none Set.univ op R = waitSpec (c : Thread nD τ) Set.univ (csem ix) n R)
    (hn : (Rd (F := F) m ρ).expect (kcell (c, ix)) 0 = n) :
    iprop(records m ρ K ∗ cred (tallyAt (kcell (c, ix)) () n) ∗ (∃ W, owes (c : Thread nD τ) 0 W) ∗ atPos ER (kcell (c, ix)) 0 ∅ 0)
      ⊢ iprop(((∃ W, owes (c : Thread nD τ) 0 W) ∗ semVal (kcell (c, ix)) 0
            ∗ bigSep ((Rd (F := F) m ρ).duties (kcell (c, ix)) 0 \ ∅) (fun d => (Rd (F := F) m ρ).payload (kcell (c, ix)) 0 d) -∗ wp frame (wpE (defs₀ (F := F)) 𝒱₀ (c : Thread nD τ) none) Set.univ (k ⟨⟩) Q)
          -∗ wp frame (wpE (defs₀ (F := F)) 𝒱₀ (c : Thread nD τ) none) Set.univ (.op op k) Q) := by
  iintro ⟨#Hrec, Hc, ⟨%W, HO⟩, Hat⟩ Hk
  ihave Hr := (records_at m ρ K (c, ix)) $$ Hrec
  icases Hr with ⟨#HI, -⟩
  iapply (Rounds.wp_wait_rest_token 𝒱₀ ER (Rd m ρ) (c : Thread nD τ) none (κ := K (c, ix))
      hw (Set.mem_univ _) () (O := 0) (W := W) (R := 0) (m := 0) (T := ∅) (by rw [hn, Nat.zero_add])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd m ρ) (Set.mem_univ (K (c, ix))) (fun h => h) (R := 0 + 1) (duties_later m ρ (kcell (c, ix)))) $$ [Hat] with Hz
  · isplitr; · iexact HI
    iexact Hat
  iapply Hk
  isplitl [HO]; · iexists _; iexact HO
  isplitl [Hz]; · iexact Hz
  iexact Hpay

/-- The wait for the landing of chunk `j`. -/
theorem step_landed {α : Type} {Q : α → sProp 𝕄}
    {k : PUnit → Prog (TpuEff nD τ sig (Elt F) Λ₀ .tc) α} (j : Fin 3) {sR : DmaSem sig} (hR : sR = recvQ j) {src dst : Memref sig .tc .vmem S512x512 .bf16}
    (hdst' : dst = rSlot j) {hsrc : src.view.WordExact} {hdst : dst.view.WordExact} :
    iprop(records m ρ K ∗ cred (tallyAt (recvCell c j) () N) ∗ (∃ W, owes (c : Thread nD τ) 0 W) ∗ atPos ER (recvCell c j) 0 ∅ 0)
      ⊢ iprop(((∃ W, owes (c : Thread nD τ) 0 W) ∗ semVal (recvCell c j) 0 ∗ recvPay m ρ c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hR hdst'
  have h := step_wait m ρ K c (Q := Q) (k := k) (rIx j) (n := N)
    (wpE_waitDma2_eq (sem := recvQ j) (src := src) (dst := rSlot j) (hsrc := hsrc) (hdst := hdst) 𝒱₀ (c : Thread nD τ) none Set.univ) (expect_recv m ρ c j)
  rw [kcell_recv, rest_recv] at h
  exact h

/-- The wait for the departure of chunk `j`. -/
theorem step_left {α : Type} {Q : α → sProp 𝕄}
    {k : PUnit → Prog (TpuEff nD τ sig (Elt F) Λ₀ .tc) α} (j : Fin 3) {sS : DmaSem sig} (hS : sS = sendQ j) {src dst : Memref sig .tc .vmem S512x512 .bf16}
    (hdst' : dst = cSlot j) {hsrc : src.view.WordExact} {hdst : dst.view.WordExact} :
    iprop(records m ρ K ∗ cred (tallyAt (sendCell c j) () N) ∗ (∃ W, owes (c : Thread nD τ) 0 W) ∗ atPos ER (sendCell c j) 0 ∅ 0)
      ⊢ iprop(((∃ W, owes (c : Thread nD τ) 0 W) ∗ semVal (sendCell c j) 0 ∗ sendPay c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hS hdst'
  have h := step_wait m ρ K c (Q := Q) (k := k) (sIx j) (n := N)
    (wpE_waitDma2_eq (sem := sendQ j) (src := src) (dst := cSlot j) (hsrc := hsrc) (hdst := hdst) 𝒱₀ (c : Thread nD τ) none Set.univ) (expect_send m ρ c j)
  rw [kcell_send, rest_send] at h
  exact h

end Steps

end Cert.Exchange
-- ==== Proof.Body.lean ====
/-
# The kernel's body

The body on a symbolic device `c`, effect by effect, from the exchange's ghost state and the staged inputs to the
result `outAt`, the closed semaphores and the scratch buffers.
-/
module

public import proofs.«01_k».proof.Proof.Steps
public import proofs.«01_k».proof.Proof.Gen.KernelIdeal.Frame
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores -/

theorem slot_load_sub (j : Fin 3) : commM.view.setOn (slotRect j).toLoadRect.set ⊆ (slotRect j).set := by
  intro i hi
  obtain ⟨x, hx, rfl⟩ := Finset.mem_map.mp hi
  exact hx

theorem slot_store_sub (j : Fin 3) : (commM.access (slotRect j)).setOn Finset.univ ⊆ (slotRect j).set :=
  (View.set_slice_whole cc0_scratch0 (slotRect j)).le

theorem recv_load_sub (j : Fin 3) : recvM.view.setOn (slotRect j).toLoadRect.set ⊆ (slotRect j).set := by
  intro i hi
  obtain ⟨x, hx, rfl⟩ := Finset.mem_map.mp hi
  exact hx

omit [FloatOps F] in
theorem hz : (![0, 0] : Fin 2 → Nat) = fun _ => 0 := funext fun a => by fin_cases a <;> rfl

/-- The load of the whole block of `x`. -/
theorem read_x (f : (cc0_stg0_0 : Ref sig .tc).ty.Contents (Elt F)) :
    xM.view.readAt (Elt F) (Rect.unit (s := S512x2048) ![0, 0] S512x2048.size inb_S512x2048_S512x2048_0_0).toLoadRect f = f :=
  Memref.readAt_unit_zero (Elt F) cc0_stg0_0 hz _ f

/-- A staging buffer held whole. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Steps

variable (c : Dev nD)

/-- Loading the columns of `w` for chunk `j`. -/
theorem step_wcols {α : Type} {Q : α → sProp 𝕄} (j : Fin 3) {off : Fin 2 → Nat} {hin} {hl}
    (ho : off = k0_off1 c (BitVec.ofNat 32 (1 + j.val)))
    {k : Vec F S2048x512 .f32 → Prog (TpuEff nD τ sig (Elt F) Λ₀ .tc) α} :
    (((c : Thread nD τ).loc cc0_stg1_0) ↦{fullShare} wstg m ρ c : sProp 𝕄)
      ⊢ iprop(((((c : Thread nD τ).loc cc0_stg1_0) ↦{fullShare} wstg m ρ c)
            -∗ wp frame (wpE (defs₀ (F := F)) 𝒱₀ (c : Thread nD τ) none) Set.univ (k (wcols m ρ c j)) Q)
          -∗ wp frame (wpE (defs₀ (F := F)) 𝒱₀ (c : Thread nD τ) none) Set.univ
              (.op (.load wM (Rect.unit (s := S2048x2048) off S2048x512.size hin).toLoadRect hl) k) Q) := by
  subst ho
  exact wp_load 𝒱₀ (c : Thread nD τ) none Set.univ (m := wM) (Finset.subset_univ _)

/-- Storing chunk `j` in its slot (the kernel loads the slot before, and makes nothing of what it reads). -/
theorem step_put {α : Type} {Q : α → sProp 𝕄} (j : Fin 3) {w : Vec F S1x512x512 .bf16} (hw : w = chunk m ρ c j) {hl} {hx} {hm}
    {k : PUnit → Prog (TpuEff nD τ sig (Elt F) Λ₀ .tc) α} :
    iprop(∃ f, slotPts (F := F) c (cSlot j) f)
      ⊢ iprop(((∃ f, slotPts c (cSlot j) ((commM.access (slotRect j)).write (Elt F) f (chunk m ρ c j) Finset.univ))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load commM (slotRect j).toLoadRect hl) fun _ => .op (.store commM (slotRect j) w Finset.univ hx hm) k) Q) := by
  subst hw
  iintro ⟨%f, H⟩ Hk
  ihave H := (Entails.of_eq (cSlotPts_eq c j f)) $$ H
  iapply (wp_load 𝒱₀ (c : Thread nD τ) none Set.univ (m := commM) (slot_load_sub j)) $$ H; iintro H
  iapply (wp_store 𝒱₀ (c : Thread nD τ) none Set.univ (m := commM) (r := slotRect j) (Mk := Finset.univ) (slot_store_sub j)) $$ H; iintro H
  iapply Hk
  iexists f
  iapply (Entails.of_eq (cSlotPts_eq c j _).symm); iexact H

/-- Loading a chunk that has landed. -/
theorem step_take {α : Type} {Q : α → sProp 𝕄} (j : Fin 3) {hl}
    {k : Vec F S1x512x512 .bf16 → Prog (TpuEff nD τ sig (Elt F) Λ₀ .tc) α} :
    recvPay (F := F) m ρ c j
      ⊢ iprop(((∃ f, slotPts (F := F) c (rSlot j) f)
            -∗ wp frame (wpE (defs₀ (F := F)) 𝒱₀ (c : Thread nD τ) none) Set.univ (k (chunk m ρ (hop j.rev c) j)) Q)
          -∗ wp frame (wpE (defs₀ (F := F)) 𝒱₀ (c : Thread nD τ) none) Set.univ
              (.op (.load recvM (slotRect j).toLoadRect hl) k) Q) := by
  unfold recvPay
  iintro ⟨%f, H, %hf⟩ Hk
  rw [← hf]
  ihave H := (Entails.of_eq (rSlotPts_eq c j f)) $$ H
  iapply (wp_load 𝒱₀ (c : Thread nD τ) none Set.univ (m := recvM) (recv_load_sub j)) $$ H; iintro H
  iapply Hk
  iexists f
  iapply (Entails.of_eq (rSlotPts_eq c j f).symm); iexact H

/-- A store of a block of the result, after a load of it of which nothing is made. -/
theorem step_out {α : Type} {Q : α → sProp 𝕄} {off : Fin 2 → Nat} {hin} {hl} {hx} {hm} {w : Vec F S512x512 .f32}
    (g : (cc0_stg2_0 : Ref sig .tc).ty.Contents (Elt F)) {k : PUnit → Prog (TpuEff nD τ sig (Elt F) Λ₀ .tc) α} :
    (((c : Thread nD τ).loc cc0_stg2_0) ↦{fullShare} g : sProp 𝕄)
      ⊢ iprop(((((c : Thread nD τ).loc cc0_stg2_0) ↦{fullShare}
              ((oM.access (Rect.unit (s := S2048x512) off S512x512.size hin)).write (Elt F) g w Finset.univ))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load oM (Rect.unit (s := S2048x512) off S512x512.size hin).toLoadRect hl) fun _ =>
                .op (.store oM (Rect.unit (s := S2048x512) off S512x512.size hin) w Finset.univ hx hm) k) Q) := by
  iintro H Hk
  iapply (wp_load 𝒱₀ (c : Thread nD τ) none Set.univ (m := oM) (Finset.subset_univ _)) $$ H; iintro H
  iapply (wp_store 𝒱₀ (c : Thread nD τ) none Set.univ (m := oM)
    (r := Rect.unit (s := S2048x512) off S512x512.size hin) (Mk := Finset.univ) (Finset.subset_univ _)) $$ H; iintro H
  iapply Hk
  iexact H

omit [FloatOps F] in
/-- A row that is in no block got from a partner is in the block kept. -/
theorem own_rows (i : S2048x512.Idx) (h1 : (i 0).val / 512 ≠ (hop (Fin.rev 1) c).val)
    (h2 : (i 0).val / 512 ≠ (hop (Fin.rev 2) c).val) (h0 : (i 0).val / 512 ≠ (hop (Fin.rev 0) c).val) : (i 0).val / 512 = c.val := by
  have hi : (i 0).val / 512 < 4 := by have : (i 0).val < 2048 := (i 0).isLt; omega
  generalize (i 0).val / 512 = b at *
  by_contra h
  obtain ⟨j, hj⟩ := exists_hop (c := c) (d := (⟨b, hi⟩ : Fin 4)) (fun e => h (congrArg Fin.val e))
  have hb : b = (hop j c).val := congrArg Fin.val hj
  fin_cases j
  · exact h2 hb
  · exact h1 hb
  · exact h0 hb

/-- The four blocks of rows, stored one after the other, are the result, whatever the buffer held before. -/
theorem stored_out (g : (cc0_stg2_0 : Ref sig .tc).ty.Contents (Elt F)) :
    (oM.access (Rect.unit (s := S2048x512) (k0_off4 c 2#32) S512x512.size (k0_off4_inb c 1))).write (Elt F)
      ((oM.access (Rect.unit (s := S2048x512) (k0_off4 c 3#32) S512x512.size (k0_off4_inb c 2))).write (Elt F)
        ((oM.access (Rect.unit (s := S2048x512) (k0_off4 c 1#32) S512x512.size (k0_off4_inb c 0))).write (Elt F)
          ((oM.access (Rect.unit (s := S2048x512) (k0_off3 c) S512x512.size (k0_off3_inb c))).write (Elt F) g (kept m ρ c) Finset.univ)
          (got m ρ c 0) Finset.univ) (got m ρ c 2) Finset.univ) (got m ρ c 1) Finset.univ
      = outAt m ρ c := by
  funext (i : S2048x512.Idx)
  refine (write_rows _ _ (hop (Fin.rev 1) c) (off4_eq c 1) _ _ i).trans ?_
  unfold outAt
  by_cases h1 : (i 0).val / 512 = (hop (Fin.rev 1) c).val
  · rw [if_pos h1, if_pos h1]
  rw [if_neg h1, if_neg h1]
  refine (write_rows _ _ (hop (Fin.rev 2) c) (off4_eq c 2) _ _ i).trans ?_
  by_cases h2 : (i 0).val / 512 = (hop (Fin.rev 2) c).val
  · rw [if_pos h2, if_pos h2]
  rw [if_neg h2, if_neg h2]
  refine (write_rows _ _ (hop (Fin.rev 0) c) (off4_eq c 0) _ _ i).trans ?_
  by_cases h0 : (i 0).val / 512 = (hop (Fin.rev 0) c).val
  · rw [if_pos h0, if_pos h0]
  rw [if_neg h0, if_neg h0]
  refine (write_rows _ _ c (k0_off3_eq c) _ _ i).trans ?_
  exact if_pos (own_rows c i h1 h2 h0)

end Steps

variable (K : Dev nD × Fin 7 → ℕ)

/-- What the body starts from. -/
def bodyPre (c : Dev nD) : sProp 𝕄 :=
  iprop((ghost m ρ K c ∗ credits c ∗ levAts L lv ∗ scratch c)
    ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the body ends with. -/
def bodyPost (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 (outAt m ρ c))

set_option maxHeartbeats 1600000 in
/-- The body, effect by effect. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body xM (Memref.isWhole_whole _) wM (Memref.isWhole_whole _) oM (Memref.isWhole_whole _)
            commM (Memref.isWhole_whole _) recvM (Memref.isWhole_whole _) cc0_scratch2 cc0_scratch3) Kt := by
  simp only [cc0_body_eq_skeleton, cc0_body_skel, k0_part1_eq_skeleton, k0_part2_eq_skeleton, k0_part3_eq_skeleton, k0_part4_eq_skeleton,
    k0_part5_eq_skeleton, k0_part6_eq_skeleton, k0_part7_eq_skeleton, k0_part8_eq_skeleton,
    k0_part1_skel, k0_part2_skel, k0_part3_skel, k0_part4_skel, k0_part5_skel, k0_part6_skel, k0_part7_skel, k0_part8_skel,
    semSignalWord, semWaitWord, Prog.lift, Prog.bind_op, Prog.bind_ret, Prog.pure_eq_ret, wp_deviceId]
  unfold bodyPre ghost credits
  rw [bigSep_fin3, bigSep_fin3]
  unfold perChunk
  iintro ⟨⟨⟨⟨#Hrec, HatB, ⟨Has0, Har0, HtB0, HtR0, HtS0⟩, ⟨Has1, Har1, HtB1, HtR1, HtS1⟩, ⟨Has2, Har2, HtB2, HtR2, HtS2⟩⟩,
    ⟨HcB, HcR0, HcR1, HcR2⟩, #Hlev, Hscr⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  ihave Hs := (scratch_split c) $$ Hscr
  icases Hs with ⟨⟨HC0, HC1, HC2⟩, HR0, HR1, HR2⟩
  unfold Dat.owesAt Pipeline.owesWithin
  icases Ho with ⟨%W, %hW, HO⟩
  rw [show (dats m ρ 0 c).owed t0_0.castSucc = O₀ c from rfl]
  -- the three barrier units
  unfold O₀
  iapply (step_signal m ρ K c 0 _ (dev1_eq c) _ (by decide) (O₁ c + oweBar c 2 + oweBar c 1) W) $$ [HO HtB0 HR2]
  · isplitr; · iexact Hrec
    isplitl [HO]; · iexact HO
    isplitl [HtB0]; · iexact HtB0
    iexact HR2
  iintro HO
  iapply (step_signal m ρ K c 1 _ (dev2_eq c) _ (by decide) (O₁ c + oweBar c 2) W) $$ [HO HtB1 HR1]
  · isplitr; · iexact Hrec
    isplitl [HO]; · iexact HO
    isplitl [HtB1]; · iexact HtB1
    iexact HR1
  iintro HO
  iapply (step_signal m ρ K c 2 _ (dev3_eq c) _ (by decide) (O₁ c) W) $$ [HO HtB2 HR0]
  · isplitr; · iexact Hrec
    isplitl [HO]; · iexact HO
    isplitl [HtB2]; · iexact HtB2
    iexact HR0
  iintro HO
  -- the first chunk, into its slot
  iapply (wp_load 𝒱₀ (c : Thread nD τ) none Set.univ (m := xM) (Finset.subset_univ _)) $$ Hx; iintro Hx
  rw [read_x]
  iapply (step_wcols m ρ c 1 rfl) $$ Hw; iintro Hw
  iapply (step_put m ρ c 1 rfl) $$ HC1; iintro ⟨%f1, HC1⟩
  -- the barrier
  iapply (step_barrier m ρ K c _ (by decide) W) $$ [HO HcB HatB]
  · isplitr; · iexact Hrec
    isplitr; · iexact Hlev
    isplitl [HcB]; · iexact HcB
    isplitl [HO]; · iexact HO
    iexact HatB
  iintro ⟨⟨%W1, HO⟩, HzB, HD0, HD1, HD2⟩
  unfold O₁
  iapply (step_send m ρ K c 1 _ (dev4_eq c) rfl rfl rfl rfl f1 (oweRecv c 2 + oweRecv c 0) W1) $$ [HC1 HD1 HO HtR1 HtS1]
  · isplitr; · iexact Hrec
    isplitl [HC1]; · iexact HC1
    isplitl [HD1]; · iexact HD1
    isplitl [HO]; · iexact HO
    isplitl [HtR1]; · iexact HtR1
    iexact HtS1
  iintro ⟨HcS1, HO⟩
  iapply (step_wcols m ρ c 0 rfl) $$ Hw; iintro Hw
  iapply (step_put m ρ c 0 rfl) $$ HC0; iintro ⟨%f0, HC0⟩
  iapply (step_send m ρ K c 0 _ (dev5_eq c) rfl rfl rfl rfl f0 (oweRecv c 2) W1) $$ [HC0 HD0 HO HtR0 HtS0]
  · isplitr; · iexact Hrec
    isplitl [HC0]; · iexact HC0
    isplitl [HD0]; · iexact HD0
    isplitl [HO]; · iexact HO
    isplitl [HtR0]; · iexact HtR0
    iexact HtS0
  iintro ⟨HcS0, HO⟩
  iapply (step_wcols m ρ c 2 rfl) $$ Hw; iintro Hw
  iapply (step_put m ρ c 2 rfl) $$ HC2; iintro ⟨%f2, HC2⟩
  iapply (step_send m ρ K c 2 _ (dev6_eq c) rfl rfl rfl rfl f2 0 W1) $$ [HC2 HD2 HO HtR2 HtS2]
  · isplitr; · iexact Hrec
    isplitl [HC2]; · iexact HC2
    isplitl [HD2]; · iexact HD2
    isplitl [HO]; · rw [zero_add]; iexact HO
    isplitl [HtR2]; · iexact HtR2
    iexact HtS2
  iintro ⟨HcS2, HO⟩
  -- the block that stays
  iapply (wp_load 𝒱₀ (c : Thread nD τ) none Set.univ (m := wM) (Finset.subset_univ _)) $$ Hw; iintro Hw
  iapply (step_out c g2) $$ Hout; iintro Hout
  -- the three landings
  iapply (step_landed m ρ K c 0 rfl rfl) $$ [HO HcR0 Har0]
  · isplitr; · iexact Hrec
    isplitl [HcR0]; · iexact HcR0
    isplitl [HO]; · iexists W1; iexact HO
    iexact Har0
  iintro ⟨HO, HzR0, Hpay⟩
  iapply (step_take m ρ c 0) $$ Hpay; iintro HR0
  iapply (step_out c _) $$ Hout; iintro Hout
  iapply (step_landed m ρ K c 2 rfl rfl) $$ [HO HcR2 Har2]
  · isplitr; · iexact Hrec
    isplitl [HcR2]; · iexact HcR2
    isplitl [HO]; · iexact HO
    iexact Har2
  iintro ⟨HO, HzR2, Hpay⟩
  iapply (step_take m ρ c 2) $$ Hpay; iintro HR2
  iapply (step_out c _) $$ Hout; iintro Hout
  iapply (step_landed m ρ K c 1 rfl rfl) $$ [HO HcR1 Har1]
  · isplitr; · iexact Hrec
    isplitl [HcR1]; · iexact HcR1
    isplitl [HO]; · iexact HO
    iexact Har1
  iintro ⟨HO, HzR1, Hpay⟩
  iapply (step_take m ρ c 1) $$ Hpay; iintro HR1
  iapply (step_out c _) $$ Hout; iintro Hout
  -- the three departures
  iapply (step_left m ρ K c 0 rfl rfl) $$ [HO HcS0 Has0]
  · isplitr; · iexact Hrec
    isplitl [HcS0]; · iexact HcS0
    isplitl [HO]; · iexact HO
    iexact Has0
  iintro ⟨HO, HzS0, HC0⟩
  iapply (step_left m ρ K c 2 rfl rfl) $$ [HO HcS2 Has2]
  · isplitr; · iexact Hrec
    isplitl [HcS2]; · iexact HcS2
    isplitl [HO]; · iexact HO
    iexact Has2
  iintro ⟨HO, HzS2, HC2⟩
  iapply (step_left m ρ K c 1 rfl rfl) $$ [HO HcS1 Has1]
  · isplitr; · iexact Hrec
    isplitl [HcS1]; · iexact HcS1
    isplitl [HO]; · iexact HO
    iexact Has1
  iintro ⟨⟨%W', HO⟩, HzS1, HC1⟩
  rw [wp_ret]; imodintro
  iapply Hk
  unfold bodyPost Φ₁ Dat.owesAt Pipeline.owesWithin sendPay
  rw [show (dats m ρ 0 c).owed t0_0.succ = 0 from rfl, bigSep_fin3]
  isplitl [HC0 HC1 HC2 HR0 HR1 HR2 HzB HzS0 HzS1 HzS2 HzR0 HzR1 HzR2]
  · isplitl [HC0 HC1 HC2 HR0 HR1 HR2]
    · iapply (scratch_join c)
      isplitl [HC0 HC1 HC2]
      · isplitl [HC0]; · iexact HC0
        isplitl [HC1] <;> iassumption
      · isplitl [HR0]; · iexact HR0
        isplitl [HR1] <;> iassumption
    isplitr [HzB]
    · isplitl [HzS0 HzR0]; · isplitl [HzS0] <;> iassumption
      isplitl [HzS1 HzR1]; · isplitl [HzS1] <;> iassumption
      isplitl [HzS2] <;> iassumption
    iexact HzB
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; exact stored_out m ρ c g2)
  iexact Hout

/-- The body as the pipeline library asks for it: from what holds before the point, to what holds after. -/
theorem body_obligation (c : Dev nD) : BodyObligation (dats (F := F) m ρ 0 c) (defs₀ (F := F)) 𝒱₀ () Set.univ := fun t => by
  rw [fin_N0 t, bigSep_W0, bigSep_W0]
  simp only [owns_whole_eq]
  show iprop(Φ₀ m ρ c ∗ (dats m ρ 0 c).owesAt () t0_0.castSucc
      ∗ (∃ d, stg c cc0_stg0_0 ((dats m ρ 0 c).before (0 : Fin 3) t0_0 d))
      ∗ (∃ d, stg c cc0_stg1_0 ((dats m ρ 0 c).before (1 : Fin 3) t0_0 d))
      ∗ (∃ d, stg c cc0_stg2_0 ((dats m ρ 0 c).before (2 : Fin 3) t0_0 d)))
    ⊢ wp frame (wpE (defs₀ (F := F)) 𝒱₀ c none) Set.univ
      (cc0_body xM (Memref.isWhole_whole _) wM (Memref.isWhole_whole _) oM (Memref.isWhole_whole _)
        commM (Memref.isWhole_whole _) recvM (Memref.isWhole_whole _) cc0_scratch2 cc0_scratch3) (fun _ => bodyPost m ρ c)
  unfold Φ₀ start
  iintro ⟨⟨⟨⟨%K, Hg⟩, Hcr, Hlev⟩, Hscr⟩, Hrest⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev] <;> iassumption
    · iexact Hrest
  · iintro H; iexact H

end Cert.Exchange
-- ==== Proof.Run.lean ====
/-
# The launch, and the run of the whole program

The launch gives each device the duty tokens of its own cells; here they are dealt to the devices that pay the duties,
the seven cells of every device are put under their invariants, and what the devices owe one another is matched with
the credit each waits with. With the body's proof this gives the run: from any memory with all counters at zero every
fair execution ends, the result array of each device holds `outAt`, the arguments are as they were and every counter
is back at zero.
-/
module

public import proofs.«01_k».proof.Proof.Body
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores at launch -/

/-- The kernel's own semaphores: the six of the copies. -/
abbrev osem (k : Fin 6) : SemLoc sig := csem k.succ

theorem ownSemFacts : Pipeline.OwnSemFacts cfg0.spec osem := by decide

theorem share_eq (c : Dev nD) (w : Fin cfg0.W) : (dats m ρ 0 c).share w = fullShare := by unfold Dat.share; split <;> rfl

theorem bigSep_fin7 (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem ownSems_eq (c : Dev nD) :
    (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (sendCell c 2) 0
          ∗ semVal (recvCell c 0) 0 ∗ semVal (recvCell c 1) 0 ∗ semVal (recvCell c 2) 0) := by
  rw [Pipeline.ownSems0_eq_of_list c osem [0, 1, 2, 3, 4, 5] (by decide) (by decide)]; rfl

theorem barSem_eq (c : Dev nD) : (unscopedSems0 c : sProp 𝕄) = semVal (barCell c) 0 := by
  unfold unscopedSems0; rw [bigSep_eq_bigSepL_of_eq [SemLoc.reg barS] (by decide) (by decide)]; rfl

/-- The counters of a device's seven cells, at zero. -/
theorem zeros_eq (c : Dev nD) :
    (bigSep Finset.univ fun k : Fin 7 => semVal (kcell (c, k)) 0 : sProp 𝕄)
      = iprop(unscopedSems0 c ∗ Pipeline.ownSems0 (Ix := Unit) (Name := ℕ) (U := UU) (Lvl := ℕ) (Val := Elt F) (τ := τ) osem c) := by
  rw [barSem_eq, ownSems_eq, bigSep_fin7]; rfl

/-! ## The cells and the tokens as the launch mints them -/

theorem csem_injective : Function.Injective csem := by decide

theorem kcell_injective : Function.Injective kcell := fun a b h =>
  Prod.ext (congrArg (fun g : GSem nD τ sig => g.1.1) h) (csem_injective (congrArg Prod.snd h))

def cells : Finset (GSem nD τ sig) := Finset.univ.map ⟨kcell, kcell_injective⟩

/-- Of chunk number `j`: a unit of the barrier, the duty at the receive semaphore, the duty at the send semaphore. -/
def tokSem (jk : Fin 3 × Fin 3) : SemLoc sig × Fin 3 := match jk.2 with
  | 0 => (.reg barS, jk.1)
  | 1 => (.dma (recvQ jk.1), 0)
  | 2 => (.dma (sendQ jk.1), 0)
theorem tokSem_injective : Function.Injective tokSem := by decide

def tokOf (x : Dev nD × Fin 3 × Fin 3) : GSem nD τ sig × ℕ × Fin 3 := (((x.1 : Thread nD τ), (tokSem x.2).1), 0, (tokSem x.2).2)
theorem tokOf_injective : Function.Injective tokOf := fun a b h =>
  Prod.ext (congrArg (fun t : GSem nD τ sig × ℕ × Fin 3 => t.1.1.1) h)
    (tokSem_injective (Prod.ext (congrArg (fun t : GSem nD τ sig × ℕ × Fin 3 => t.1.2) h) (congrArg (fun t : GSem nD τ sig × ℕ × Fin 3 => t.2.2) h)))

def minted : Finset (GSem nD τ sig × ℕ × Fin 3) := Finset.univ.map ⟨tokOf, tokOf_injective⟩

def u₀ : UU := (initOf (Pipeline.cells cfgs cellOf_inj) (Pipeline.launchToks cfgs cellOf_inj), initOf cells minted)

/-- The tokens of the duties at device `c`'s own cells. -/
def ownToks (c : Dev nD) : sProp 𝕄 :=
  bigSep Finset.univ fun j : Fin 3 =>
    iprop(dutyTok ER (barCell c) 0 j ∗ dutyTok ER (recvCell c j) 0 0 ∗ dutyTok ER (sendCell c j) 0 0)

/-- The tokens of the duties that device `c` pays. -/
def payToks (c : Dev nD) : sProp 𝕄 :=
  bigSep Finset.univ fun j : Fin 3 =>
    iprop(dutyTok ER (barCell (hop j c)) 0 j.rev ∗ dutyTok ER (recvCell (hop j c) j) 0 0 ∗ dutyTok ER (sendCell c j) 0 0)

/-- Device `c`'s positions. -/
def positions (c : Dev nD) : sProp 𝕄 := bigSep Finset.univ fun k : Fin 7 => atPos ER (kcell (c, k)) 0 ∅ 0

/-- What the launch deals device `c`, -/
def G (c : Dev nD) : sProp 𝕄 :=
  iprop((bigSep Finset.univ fun k : Fin 7 => roundState ER (Rd m ρ) (kcell (c, k)) 0)
    ∗ (bigSep Finset.univ fun k : Fin 7 => reached ER (kcell (c, k)) 0) ∗ positions c ∗ ownToks c)
/-- and what comes of it when all devices have put their cells under invariants and dealt out their tokens. -/
def G' (c : Dev nD) : sProp 𝕄 := iprop(∃ K, ghost m ρ K c)

theorem fund : BI.own (ER (initOf cells minted)) ⊢ (|==> bigSep Finset.univ (G m ρ) : sProp 𝕄) := by
  have hC (Φ : GSem nD τ sig → sProp 𝕄) :
      bigSep cells Φ = bigSep Finset.univ fun c : Dev nD => bigSep Finset.univ fun k : Fin 7 => Φ (kcell (c, k)) := by
    unfold cells; rw [bigSep_map, bigSep_univ_prod]; rfl
  have hT : bigSep minted (fun x => (dutyTok ER x.1 x.2.1 x.2.2 : sProp 𝕄)) = bigSep Finset.univ fun c : Dev nD => ownToks c := by
    unfold minted; rw [bigSep_map, bigSep_univ_prod]
    refine bigSep_congr fun c _ => ?_
    unfold ownToks
    rw [bigSep_univ_prod]
    exact bigSep_congr fun j _ => by rw [bigSep_fin3]; rfl
  iintro H
  imod (Rounds.fund ER (Rd m ρ) cells minted) $$ H with ⟨Hst, Hr, Hat, Htok⟩
  imodintro
  unfold G positions; simp only [bigSep_sep']
  isplitl [Hst]; · iapply (Entails.of_eq (hC fun g => roundState ER (Rd m ρ) g 0)); iexact Hst
  isplitl [Hr]; · iapply (Entails.of_eq (hC fun g => reached ER g 0)); iexact Hr
  isplitl [Hat]; · iapply (Entails.of_eq (hC fun g => atPos ER g 0 ∅ 0)); iexact Hat
  iapply (Entails.of_eq hT); iexact Htok

/-! ## Invariants, and the tokens dealt to those who pay -/

/-- One device puts its seven cells under invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop((∃ κ : ℕ, cellInv ER (Rd m ρ) κ (kcell (c, k))) ∗ reached ER (kcell (c, k)) 0))
          ∗ positions c ∗ ownToks c) := by
  unfold G
  iintro ⟨Ho, Hu, Hst, Hr, Hrest⟩
  ihave Hz := (Entails.of_eq (zeros_eq (F := F) c).symm) $$ [Ho Hu]
  · isplitl [Hu] <;> iassumption
  have halloc : iprop((bigSep Finset.univ fun k : Fin 7 => semVal (kcell (c, k)) 0)
        ∗ bigSep Finset.univ fun k : Fin 7 => roundState ER (Rd m ρ) (kcell (c, k)) 0)
      ⊢ (|={Set.univ}=> bigSep Finset.univ fun k : Fin 7 => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  imod halloc $$ [Hz Hst] with Hi
  · isplitl [Hz] <;> iassumption
  imodintro
  isplitr [Hrest]
  · iapply (Entails.of_eq (bigSep_sep' Finset.univ (fun k : Fin 7 => iprop(∃ κ : ℕ, cellInv ER (Rd m ρ) κ (kcell (c, k))))
      (fun k : Fin 7 => reached ER (kcell (c, k)) 0)).symm)
    isplitl [Hi] <;> iassumption
  · iexact Hrest

/-- Who pays which barrier unit: device `c`, sending chunk `j`, pays unit `j.rev` at `hop j c`. -/
def barEquiv : Dev nD × Fin 3 ≃ Dev nD × Fin 3 where
  toFun x := (hop x.2 x.1, x.2.rev)
  invFun x := (hop x.2 x.1, x.2.rev)
  left_inv x := Prod.ext (hop_rev_hop x.2 x.1) (Fin.rev_rev x.2)
  right_inv x := Prod.ext (hop_rev_hop x.2 x.1) (Fin.rev_rev x.2)

/-- Who pays for which landing: device `c`, sending chunk `j`, pays at receive semaphore `j` of `hop j c`. -/
def recvEquiv : Dev nD × Fin 3 ≃ Dev nD × Fin 3 where
  toFun x := (hop x.2 x.1, x.2)
  invFun x := (hop x.2.rev x.1, x.2)
  left_inv x := Prod.ext (hop_rev_hop x.2 x.1) rfl
  right_inv x := Prod.ext (hop_hop_rev x.2 x.1) rfl

/-- A family over devices and chunks, renumbered. -/
theorem renumber (e : Dev nD × Fin 3 ≃ Dev nD × Fin 3) (Φ : Dev nD → Fin 3 → sProp 𝕄) :
    (bigSep Finset.univ fun c => bigSep Finset.univ fun j => Φ c j)
      = bigSep Finset.univ fun c => bigSep Finset.univ fun j => Φ (e (c, j)).1 (e (c, j)).2 := by
  rw [← bigSep_univ_prod (fun x : Dev nD × Fin 3 => Φ x.1 x.2), bigSep_univ_equiv e, bigSep_univ_prod]

/-- Every duty's token goes to the device that pays it: unit `j.rev` of the barrier of `hop j c`, the landing of chunk `j`
    on `hop j c`, and `c`'s own departures. -/
theorem deal : (bigSep Finset.univ fun c : Dev nD => (ownToks c : sProp 𝕄)) = bigSep Finset.univ fun c : Dev nD => payToks c := by
  unfold ownToks payToks
  simp only [bigSep_sep']
  rw [renumber barEquiv fun c j => dutyTok ER (barCell c) 0 j, renumber recvEquiv fun c j => dutyTok ER (recvCell c j) 0 0]
  rfl

/-- With every cell's record, a device's positions and tokens are what its body starts from. -/
theorem ghost_intro (K : Dev nD × Fin 7 → ℕ) (c : Dev nD) : iprop(records m ρ K ∗ positions c ∗ payToks c) ⊢ G' m ρ c := by
  unfold G' ghost positions payToks perChunk
  rw [bigSep_fin7, bigSep_fin3, bigSep_fin3]
  iintro ⟨HR, ⟨HB, HS0, HS1, HS2, HR0, HR1, HR2⟩, ⟨HtB0, HtR0, HtS0⟩, ⟨HtB1, HtR1, HtS1⟩, HtB2, HtR2, HtS2⟩
  iexists K
  isplitl [HR]; · iexact HR
  isplitl [HB]; · iexact HB
  isplitl [HS0 HR0 HtB0 HtR0 HtS0]
  · isplitl [HS0]; · iexact HS0
    isplitl [HR0]; · iexact HR0
    isplitl [HtB0]; · iexact HtB0
    isplitl [HtR0] <;> iassumption
  isplitl [HS1 HR1 HtB1 HtR1 HtS1]
  · isplitl [HS1]; · iexact HS1
    isplitl [HR1]; · iexact HR1
    isplitl [HtB1]; · iexact HtB1
    isplitl [HtR1] <;> iassumption
  · isplitl [HS2]; · iexact HS2
    isplitl [HR2]; · iexact HR2
    isplitl [HtB2]; · iexact HtB2
    isplitl [HtR2] <;> iassumption

/-- The invariants' names are chosen for all cells at once, and every device gets every record. -/
theorem regroup :
    (bigSep Finset.univ fun c : Dev nD =>
        iprop((bigSep Finset.univ fun k : Fin 7 => iprop((∃ κ : ℕ, cellInv ER (Rd m ρ) κ (kcell (c, k))) ∗ reached ER (kcell (c, k)) 0))
          ∗ positions c ∗ ownToks c) : sProp 𝕄)
      ⊢ bigSep Finset.univ (G' m ρ) := by
  simp only [bigSep_sep']
  rw [deal, ← bigSep_univ_prod (fun ck : Dev nD × Fin 7 => iprop(∃ κ : ℕ, cellInv ER (Rd m ρ) κ (kcell ck))),
    ← bigSep_univ_prod (fun ck : Dev nD × Fin 7 => (reached ER (kcell ck) 0 : sProp 𝕄))]
  iintro ⟨⟨HI, Hr⟩, Hpt⟩
  ihave HK := (BI.bigSep_exists_pi Finset.univ (fun (ck : Dev nD × Fin 7) (κ : ℕ) => (cellInv ER (Rd m ρ) κ (kcell ck) : sProp 𝕄))) $$ HI
  icases HK with ⟨%K, HK⟩
  iapply (bigSep_with_persistent (R := records m ρ K) (Φ := fun c : Dev nD => iprop(positions c ∗ payToks c)) fun c _ => ghost_intro m ρ K c)
  isplitr [Hpt]
  · unfold records; rw [bigSep_sep']; isplitl [HK] <;> iassumption
  · rw [bigSep_sep']; iexact Hpt

theorem glob :
    (bigSep Finset.univ fun c => iprop(Pipeline.ownSems0 (Ix := Unit) (Name := ℕ) (U := UU) (Lvl := ℕ) (Val := Elt F) (τ := τ) osem c
        ∗ unscopedSems0 c ∗ G m ρ c) : sProp 𝕄)
      ⊢ |={Set.univ}=> bigSep Finset.univ (G' m ρ) :=
  ((bigSep_mono fun c _ => core_alloc m ρ c).trans (bigSep_fupd _ _)).trans (BI.fupd_mono (regroup m ρ))

/-! ## What is owed at launch is what the devices wait for -/

theorem cred_bar (j : Fin 3) (c : Dev nD) :
    (Pipeline.launchCred (fun d => oweBar d j) c : sProp 𝕄) ⊢ cred (tallyAt (barCell c) () 1) :=
  Pipeline.launchCred_tallyAt (SemLoc.reg barS) (hop j) (hop j.rev) (hop_hop_rev j) (hop_rev_hop j) () 1 c

theorem cred_recv (j : Fin 3) (c : Dev nD) :
    (Pipeline.launchCred (fun d => oweRecv d j) c : sProp 𝕄) ⊢ cred (tallyAt (recvCell c j) () N) :=
  Pipeline.launchCred_tallyAt (SemLoc.dma (recvQ j)) (hop j) (hop j.rev) (hop_hop_rev j) (hop_rev_hop j) () N c

theorem launch_credits (c : Dev nD) : (Pipeline.launchCred O₀ c : sProp 𝕄) ⊢ credits c := by
  rw [show O₀ = fun d => oweRecv d 2 + oweRecv d 0 + oweRecv d 1 + oweBar d 2 + oweBar d 1 + oweBar d 0 from rfl,
    Pipeline.launchCred_add, Pipeline.launchCred_add, Pipeline.launchCred_add, Pipeline.launchCred_add, Pipeline.launchCred_add]
  unfold credits
  rw [bigSep_fin3]
  iintro ⟨⟨⟨⟨⟨HR2, HR0⟩, HR1⟩, HB2⟩, HB1⟩, HB0⟩
  ihave HB0 := (cred_bar 0 c) $$ HB0
  ihave HB1 := (cred_bar 1 c) $$ HB1
  ihave HB2 := (cred_bar 2 c) $$ HB2
  isplitl [HB0 HB1 HB2]
  · rw [show (tallyAt (barCell c) () 3 : CellTallies nD τ sig Unit)
        = tallyAt (barCell c) () 1 + tallyAt (barCell c) () 1 + tallyAt (barCell c) () 1 from by rw [tallyAt_add, tallyAt_add]]
    iapply (cred_add _ _).2
    isplitr [HB2]
    · iapply (cred_add _ _).2
      isplitl [HB0] <;> iassumption
    · iexact HB2
  isplitl [HR0]; · iapply (cred_recv 0 c); iexact HR0
  isplitl [HR1]; · iapply (cred_recv 1 c); iexact HR1
  iapply (cred_recv 2 c); iexact HR2

/-! ## Into the body and out of it -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_credits (F := F) c) $$ Hcr
  imodintro
  unfold start G'
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, H⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, barSem_eq]
  unfold Φ₁ scratch
  rw [bigSep_fin3]
  iintro ⟨Hscr, ⟨⟨HS0, HR0⟩, ⟨HS1, HR1⟩, HS2, HR2⟩, HB⟩
  isplitl [HB]; · iexact HB
  isplitr [Hscr]
  · isplitl [HS0]; · iexact HS0
    isplitl [HS1]; · iexact HS1
    isplitl [HS2]; · iexact HS2
    isplitl [HR0]; · iexact HR0
    isplitl [HR1] <;> iassumption
  · iexact Hscr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def finalA (c : Dev nD) (w : Fin cfg0.W) : Buf (Elt F) ((cfg0.win w).arr.view.loc (c : Thread nD τ)) := (dats m ρ 0 c).arrAt w cfg0.N

set_option maxRecDepth 8000 in
/-- The run, array by array: every fair execution from a memory with all counters at zero ends, with each window's array at
    its final contents and every counter at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m ρ c w)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => by fin_cases w <;> exact Nat.succ_pos _) (harr := arr_whole0)
    (hstage := stage_whole0) (hshare := share_eq m ρ) (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro H
      ihave H := (ownU_pair _ _) $$ H
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Final.lean ====
/-
# What the run leaves in memory

Each window of the kernel is its whole array at its one grid point. So the staged arguments are the arguments
themselves, and the result array ends holding all of what the body stored.
-/
module

public import proofs.«01_k».proof.Proof.Run
public import Idealize.ShloMosaic.Lib.Pipeline.Value

@[expose] public section

noncomputable section

namespace Cert.Exchange

open Cert.KernelIdeal Cert.KernelIdeal.Gen

open Idealize.ShloMosaic
open Idealize.ShloMosaic.TcCoe
open Idealize.ShloMosaic.ValueIdx Idealize.ShloMosaic.ValueKit
open Idealize.SL.Sem

variable {F : FTy → Type} [FloatOps F]

variable (m : (ℓ : Loc nD τ sig) → Buf (Elt F) ℓ) (ρ : Dev nD → PrngReg)

/-! ## The windows' blocks -/

/-- A block at offset zero places each element where it is. -/
theorem xblk_emb (t : Fin cfg0.N) (y : S512x2048.Idx) : (win0_0.blk t).view.emb y = y :=
  funext fun a => Fin.ext ((view_emb_slice_whole_unit_val main_arg0 _ _ _ y a).trans (by
    show 0 * _ + (y a).val = (y a).val
    rw [Nat.zero_mul, Nat.zero_add]))
theorem wblk_emb (t : Fin cfg0.N) (y : S2048x2048.Idx) : (win0_1.blk t).view.emb y = y :=
  funext fun a => Fin.ext ((view_emb_slice_whole_unit_val main_arg1 _ _ _ y a).trans (by
    show 0 * _ + (y a).val = (y a).val
    rw [Nat.zero_mul, Nat.zero_add]))
theorem oblk_emb (t : Fin cfg0.N) (y : S2048x512.Idx) : (win0_2.blk t).view.emb y = y :=
  funext fun a => Fin.ext ((view_emb_slice_whole_unit_val main_v1 _ _ _ y a).trans (by
    show 0 * _ + (y a).val = (y a).val
    rw [Nat.zero_mul, Nat.zero_add]))

/-- The staged block of `x` is the device's argument; -/
theorem xstg_eq (c : Dev nD) : xstg m ρ c = m ((c : Thread nD τ).loc main_arg0) :=
  funext fun y => congrArg (m ((c : Thread nD τ).loc main_arg0)) (xblk_emb t0_0 y)
/-- the staged `w` is its copy of the second argument. -/
theorem wstg_eq (c : Dev nD) : wstg m ρ c = m ((c : Thread nD τ).loc main_arg1) :=
  funext fun y => congrArg (m ((c : Thread nD τ).loc main_arg1)) (wblk_emb t0_0 y)

/-- The result array ends at what the body stored. -/
theorem finalA_out (c : Dev nD) : finalA m ρ c (2 : Fin 3) = outAt m ρ c := by
  refine (dats m ρ 0 c).arrAt_eq_of_cover (2 : Fin 3) (outAt m ρ c) (fun t _ => ?_) (fun i => ?_)
  · exact funext fun y => (congrArg (outAt m ρ c) (oblk_emb t y)).symm
  · refine ⟨t0_0, flush0_2 t0_0, ?_⟩
    have h : (win0_2.blk t0_0).view.emb i ∈ (win0_2.blk t0_0).view.set := Finset.mem_map_of_mem _ (Finset.mem_univ _)
    rw [oblk_emb] at h
    exact h

/-- The run: every fair execution from a memory with all counters at zero ends, with each device's result array at `outAt`,
    its arguments as they were, and every counter at zero. -/
theorem run_main : θ_run defs (onTc (τ := τ) (main (F := F))) ⟨m, fun _ => 0, ρ⟩ (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono
    (fun _ h => ⟨fun c => ⟨(h.1 c (2 : Fin 3)).trans (finalA_out m ρ c),
        (h.1 c (0 : Fin 3)).trans ((dats m ρ 0 c).arrAt_in (0 : Fin 3) rfl _),
        (h.1 c (1 : Fin 3)).trans ((dats m ρ 0 c).arrAt_in (1 : Fin 3) rfl _)⟩, h.2⟩)
    (run_arrays m ρ)

end Cert.Exchange
-- ==== Proof.Value.lean ====
/-
# The result over the extended reals

Over the extended reals the kernel's result is `y · logistic y`, `y` the matrix product, with device `c` holding columns
`512 c …` of it: each block of rows comes from the device which holds those rows of `x`, and that device multiplied
them by the columns of `w` which belong to `c`. Rounding a chunk for the way and widening it on arrival change nothing
here.
-/
module

public import proofs.«01_k».proof.Proof.Final
public import Idealize.ShloMosaic.Lib.Pointwise
public import Idealize.ShloMosaic.Lib.Layout

@[expose] public section

noncomputable section

namespace Cert.Exchange

open Cert.KernelIdeal Cert.KernelIdeal.Gen

open Idealize.ShloMosaic
open Idealize.ShloMosaic.TcCoe

/-- The entry of the matrix product at row `r` and column `l`. -/
def dotAt {M N : ℕ} (X : (⟨2, ![M, 2048]⟩ : Shape).Idx → EReal) (W : (⟨2, ![2048, N]⟩ : Shape).Idx → EReal) (r : Fin M) (l : Fin N) : EReal :=
  ∑ k : Fin 2048, X (ix2 r k) * W (ix2 k l)

/-- What the kernel makes of an entry of the product. -/
def silu (y : EReal) : EReal := y * Ideal.logistic y

/-! ## The payloads at an index -/

/-- The block that a device keeps. -/
theorem kept_apply (x : FVec Ideal S512x2048 .f32) (w : FVec Ideal S2048x512 .f32) (a b : Fin 512) :
    k0_pay5 (F := Ideal) (k0_pay1 x) w (ix2 a b) = silu (dotAt x w a b) := by
  unfold k0_pay5 k0_pay1 silu dotAt
  pointwise

/-- A chunk that was sent on and received. -/
theorem got_apply (x : FVec Ideal S512x2048 .f32) (w : FVec Ideal S2048x512 .f32) (a b : Fin 512) :
    k0_pay6 (F := Ideal) (k0_pay3 (F := Ideal) (k0_pay1 x) w) (ix2 a b) = silu (dotAt x w a b) := by
  unfold k0_pay6 k0_pay3 k0_pay1 silu dotAt
  pointwise

variable (m : (ℓ : Loc nD τ sig) → Buf (Elt Ideal) ℓ) (ρ : Dev nD → PrngReg)

/-! ## The operands -/

/-- A column of device `d`'s block. -/
def colOf (d : Dev nD) (b : Fin 512) : Fin 2048 := ⟨512 * d.val + b.val, by
  have : d.val < 4 := d.isLt
  have := b.isLt
  omega⟩

/-- The columns of `w` for chunk `j` are those of the device it goes to. -/
theorem wcols_apply (c : Dev nD) (j : Fin 3) (k : Fin 2048) (b : Fin 512) :
    wcols m ρ c j (ix2 k b) = m ((c : Thread nD τ).loc main_arg1) (ix2 k (colOf (hop j c) b)) := by
  unfold wcols
  rw [wstg_eq]
  refine congrArg (m ((c : Thread nD τ).loc main_arg1)) (funext fun a => Fin.ext ?_)
  have h := off1_eq c j
  fin_cases a
  · show k0_off1 c (BitVec.ofNat 32 (1 + j.val)) 0 + 1 * k.val = k.val
    rw [h]; show 0 + 1 * k.val = k.val; omega
  · show k0_off1 c (BitVec.ofNat 32 (1 + j.val)) 1 + 1 * b.val = 512 * (hop j c).val + b.val
    rw [h]; show 512 * (hop j c).val + 1 * b.val = _; omega

/-- The columns of `w` for the block a device keeps are its own. -/
theorem wown_apply (c : Dev nD) (k : Fin 2048) (b : Fin 512) :
    wown m ρ c (ix2 k b) = m ((c : Thread nD τ).loc main_arg1) (ix2 k (colOf c b)) := by
  unfold wown
  rw [wstg_eq]
  refine congrArg (m ((c : Thread nD τ).loc main_arg1)) (funext fun a => Fin.ext ?_)
  have h := k0_off2_eq c
  fin_cases a
  · show k0_off2 c 0 + 1 * k.val = k.val
    rw [h]; show 0 + 1 * k.val = k.val; omega
  · show k0_off2 c 1 + 1 * b.val = 512 * c.val + b.val
    rw [h]; show 512 * c.val + 1 * b.val = _; omega

/-! ## A block of rows -/

variable (X W : S2048x2048.Idx → EReal)

/-- The activation of the whole product. -/
def activation : S2048x2048.Idx → EReal := fun l => silu (dotAt (M := 2048) (N := 2048) X W (l 0) (l 1))

/-- A row of device `c`'s result in the block that comes from device `d`: device `d`'s rows of `x` times the columns which
    device `c` gets are rows of the whole product. -/
theorem piece (hx : ∀ d : Dev nD, m ((d : Thread nD τ).loc main_arg0) = Layout.block ⟨2, ![512, 2048]⟩ ⟨2, ![2048, 2048]⟩ 0 4 d X)
    (c d : Dev nD) (w : FVec Ideal S2048x512 .f32) (hw : ∀ k b, w (ix2 k b) = W (ix2 k (colOf c b)))
    (i : S2048x512.Idx) (hi : (i 0).val / 512 = d.val) :
    silu (dotAt (M := 512) (N := 512) (m ((d : Thread nD τ).loc main_arg0)) w (inBlock i 0) (inBlock i 1))
      = (Layout.block ⟨2, ![2048, 512]⟩ ⟨2, ![2048, 2048]⟩ 1 4 c (activation X W)) i := by
  refine congrArg silu (Finset.sum_congr rfl fun k _ => congrArg₂ (· * ·) ?_ ?_)
  · rw [hx d]
    refine congrArg X (funext fun a => Fin.ext ?_)
    fin_cases a
    · show d.val * 512 + (i 0).val % 512 = (i 0).val
      omega
    · rfl
  · refine (hw k (i 1)).trans (congrArg W (funext fun a => Fin.ext ?_))
    fin_cases a
    · rfl
    · show 512 * c.val + (i 1).val = c.val * 512 + (i 1).val
      omega

/-- **The kernel's result**: device `c` ends with its columns of the activation of the whole product. -/
theorem outAt_eq (hx : ∀ d : Dev nD, m ((d : Thread nD τ).loc main_arg0) = Layout.block ⟨2, ![512, 2048]⟩ ⟨2, ![2048, 2048]⟩ 0 4 d X)
    (hw : ∀ d : Dev nD, m ((d : Thread nD τ).loc main_arg1) = W) (c : Dev nD) :
    outAt m ρ c = Layout.block ⟨2, ![2048, 512]⟩ ⟨2, ![2048, 2048]⟩ 1 4 c (activation X W) := by
  funext i
  have hgot (j : Fin 3) (h : (i 0).val / 512 = (hop j.rev c).val) : got m ρ c j (inBlock i)
      = (Layout.block ⟨2, ![2048, 512]⟩ ⟨2, ![2048, 2048]⟩ 1 4 c (activation X W)) i := by
    refine ((got_apply _ _ _ _).trans ?_).trans
      (piece m X W hx c (hop j.rev c) (wcols m ρ (hop j.rev c) j) (fun k b => ?_) i h)
    · rw [xstg_eq]; rfl
    · rw [wcols_apply, hw, hop_hop_rev]
  unfold outAt
  split_ifs with h1 h2 h0
  · exact hgot 1 h1
  · exact hgot 2 h2
  · exact hgot 0 h0
  · refine ((kept_apply _ _ _ _).trans ?_).trans (piece m X W hx c c (wown m ρ c) (fun k b => ?_) i (own_rows c i h1 h2 h0))
    · rw [xstg_eq]; rfl
    · rw [wown_apply, hw]

/-! ## The activation -/

/-- `y · logistic y` is `y / (1 + exp (−y))`, for every extended real `y`: the denominator is at least one. -/
theorem silu_eq (y : EReal) : silu y = Ideal.div y (1 + Ideal.exp (-y)) := by
  unfold silu Ideal.logistic
  have h0 : (0 : EReal) ≤ Ideal.exp (-y) := by
    induction -y with
    | bot => exact le_refl _
    | top => exact le_top
    | coe r => exact EReal.coe_nonneg.mpr (Real.exp_pos r).le
  have h1 : (1 : EReal) + Ideal.exp (-y) ≠ 0 := by
    have : (0 : EReal) < 1 + Ideal.exp (-y) := lt_of_lt_of_le zero_lt_one (le_add_of_nonneg_right h0)
    exact this.ne'
  simp only [Ideal.div, if_neg h1, one_mul]

/-- A number that the clip lets through is not changed by it. -/
theorem clip_eq {y b : EReal} (h : max y (-y) ≤ b) : min b (max (-b) y) = y := by
  have h1 : y ≤ b := (le_max_left _ _).trans h
  have h2 : -b ≤ y := EReal.neg_le_of_neg_le ((le_max_right _ _).trans h)
  rw [max_eq_right h2, min_eq_right h1]

/-- The bound of the clip, and its negative. -/
theorem bound_neg : Ideal.ofBits .f32 0xC2700000#32 = -Ideal.ofBits .f32 0x42700000#32 := by
  simp [Ideal.ofBits, Ideal.ieee]

/-- Within the clip, the clipped argument gives the same. -/
theorem silu_clip {y : EReal} (h : max y (-y) ≤ Ideal.ofBits .f32 0x42700000#32) :
    silu y = Ideal.div y (1 + Ideal.exp (-(min (Ideal.ofBits .f32 0x42700000#32) (max (Ideal.ofBits .f32 0xC2700000#32) y)))) := by
  rw [bound_neg, clip_eq h, silu_eq]

end Cert.Exchange
-- ==== Proof.References.lean ====
/-
# The references' results over the extended reals

Each of the two references ends with the activation of the whole product: the one without the clip for all inputs, and
the one with the clip where the clip changes no entry of the product.
-/
module

public import proofs.«01_k».proof.Proof.Value
public import proofs.«01_k».proof.Proof.Gen.ReferenceIdeal.Run
public import proofs.«01_k».proof.Proof.Gen.UnclippedIdeal.Run
public import proofs.«01_k».proof.Proof.Gen.Pre_within_clip_KernelIdeal

@[expose] public section

noncomputable section

namespace Cert.Exchange

open Idealize.ShloMosaic
open Idealize.ShloMosaic.TcCoe
open Idealize.ShloMosaic.ValueKit

/-- The 2048 × 2048 arrays. -/
abbrev Whole := FVec Ideal (⟨2, ![2048, 2048]⟩ : Shape) FTy.f32

/-- The reference without the clip computes the activation. -/
theorem unclipped_value (X W : Whole) :
    (Host.divf (Host.dotGeneral Cert.UnclippedIdeal.dot_S2048x2048_S2048x2048_S2048x2048_1_0_0_1_n_n none X W)
      (addf (broadcastInDim Cert.UnclippedIdeal.S2048x2048 ![] Cert.UnclippedIdeal.Gen.bcast_S_S2048x2048 (constant Cert.UnclippedIdeal.S_ .f32 0x3F800000#32))
        (Host.exp (Host.negf (Host.dotGeneral Cert.UnclippedIdeal.dot_S2048x2048_S2048x2048_S2048x2048_1_0_0_1_n_n none X W)))) : Whole)
      = activation X W := by
  funext l
  unfold activation
  rw [silu_eq]
  unfold dotAt
  pointwise

/-- The precondition at one device's row: the entry of the product is within the clip. -/
theorem within (x : FVec Ideal (⟨2, ![512, 2048]⟩ : Shape) FTy.f32) (W : Whole)
    (h : Cert.Pre_within_clip_KernelIdeal.fn (F := Ideal) x W = fun _ => 1#1) (a : Fin 512) (b : Fin 2048) :
    max (dotAt x W a b) (-dotAt x W a b) ≤ Ideal.ofBits .f32 0x42700000#32 := by
  have h1 := congrFun h (ix2 a b)
  unfold Cert.Pre_within_clip_KernelIdeal.fn at h1
  unfold dotAt
  pointwise at h1
  by_contra hc
  have h2 := congrArg BitVec.ofBool (decide_eq_false hc)
  exact absurd (h1.symm.trans h2) (by decide)

/-- The precondition on every device: each entry of the whole product is within the clip, as each row of `x` is one of some
    device's. -/
theorem within_whole (x : Fin 4 → FVec Ideal (⟨2, ![512, 2048]⟩ : Shape) FTy.f32) (X W : Whole)
    (hx : ∀ d, x d = Layout.block ⟨2, ![512, 2048]⟩ ⟨2, ![2048, 2048]⟩ 0 4 d X)
    (h : ∀ d, Cert.Pre_within_clip_KernelIdeal.fn (F := Ideal) (x d) W = fun _ => 1#1) (r l : Fin 2048) :
    max (dotAt X W r l) (-dotAt X W r l) ≤ Ideal.ofBits .f32 0x42700000#32 := by
  have hr := r.isLt
  have hd := within (x ⟨r.val / 512, by omega⟩) W (h _) ⟨r.val % 512, by omega⟩ l
  have e : dotAt (x ⟨r.val / 512, by omega⟩) W (⟨r.val % 512, by omega⟩ : Fin 512) l = dotAt X W r l := by
    refine Finset.sum_congr rfl fun k _ => congrArg (· * W (ix2 k l)) ?_
    rw [hx]
    refine congrArg X (funext fun a => Fin.ext ?_)
    fin_cases a
    · show r.val / 512 * 512 + r.val % 512 = r.val
      omega
    · rfl
  rwa [e] at hd

/-- The reference computes the activation where the product is within the clip. -/
theorem clipped_value (X W : Whole)
    (h : ∀ r l, max (dotAt (M := 2048) (N := 2048) X W r l) (-dotAt (M := 2048) (N := 2048) X W r l) ≤ Ideal.ofBits .f32 0x42700000#32) :
    (Host.divf (Host.dotGeneral Cert.ReferenceIdeal.dot_S2048x2048_S2048x2048_S2048x2048_1_0_0_1_n_n none X W)
      (addf (broadcastInDim Cert.ReferenceIdeal.S2048x2048 ![] Cert.ReferenceIdeal.Gen.bcast_S_S2048x2048 (constant Cert.ReferenceIdeal.S_ .f32 0x3F800000#32))
        (Host.exp (Host.negf (minimumf (broadcastInDim Cert.ReferenceIdeal.S2048x2048 ![] Cert.ReferenceIdeal.Gen.bcast_S_S2048x2048 (id (constant Cert.ReferenceIdeal.S_ .f32 0x42700000#32)))
          (maximumf (broadcastInDim Cert.ReferenceIdeal.S2048x2048 ![] Cert.ReferenceIdeal.Gen.bcast_S_S2048x2048 (id (constant Cert.ReferenceIdeal.S_ .f32 0xC2700000#32)))
            (Host.dotGeneral Cert.ReferenceIdeal.dot_S2048x2048_S2048x2048_S2048x2048_1_0_0_1_n_n none X W)))))) : Whole)
      = activation X W := by
  funext l
  unfold activation
  rw [silu_clip (h (l 0) (l 1))]
  unfold dotAt
  simp only [id]
  pointwise

end Cert.Exchange
-- ==== Proof.lean ====
/-
# The proof of the claims

The run of the exchange kernel (Proof/Final.lean) is stated for any float values; the kernel's two frames are that run with
the result dropped. Over the extended reals its result is the activation of the whole product (Proof/Value.lean), which is
what each of the two references computes (Proof/References.lean). The references are host programs that declare no
semaphore.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.UnclippedIdeal
public import proofs.«01_k».proof.Proof.Gen.ReferenceIdeal.Run
public import proofs.«01_k».proof.Proof.Gen.UnclippedIdeal.Run
public import proofs.«01_k».proof.Proof.Gen.Pre_within_clip_KernelIdeal
public import proofs.«01_k».proof.Proof.Gen.Pre_within_clip_ReferenceIdeal
public import proofs.«01_k».proof.Proof.References
public import Idealize.ShloMosaic.Adequacy
public import Idealize.ShloMosaic.Init

@[expose] public section

noncomputable section

namespace Cert.Proof

open Idealize.ShloMosaic Idealize.SL.Sem Cert.Exchange

/-! ## The frames -/

/-- The two kernel programs have the same text, so their body tables are the same; -/
theorem bodies_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | 0, (t, s) => rfl

/-- and so are the tables with the pipeline's regions. -/
theorem defs_eq : Cert.Kernel.defs (F := Bits) = Cert.KernelIdeal.defs (F := Bits) :=
  congrArg (Pipeline.defs Cert.KernelIdeal.pcfgs) bodies_eq

theorem frame_kernel : Cert.quiescent_Kernel := by
  intro m ρ _
  have h := (θ_run Cert.KernelIdeal.defs _ _).mono (fun _ h => And.intro (fun c => (h.1 c).2) h.2) (run_main (F := Bits) m ρ)
  rw [← defs_eq] at h
  exact h

theorem frame_kernelIdeal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_unclipped : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-! ## The value claims -/

/-- The kernel against the reference without the clip, for all inputs. -/
theorem algebraic_unclipped : Cert.algebraic_KernelIdeal_UnclippedIdeal := by
  intro m ρ m' ρ' _ hagree
  refine ⟨activation (m' (((0 : Dev Cert.UnclippedIdeal.nD).tc : Thread _ Cert.UnclippedIdeal.τ).loc Cert.UnclippedIdeal.main_arg0))
      (m' (((0 : Dev Cert.UnclippedIdeal.nD).tc : Thread _ Cert.UnclippedIdeal.τ).loc Cert.UnclippedIdeal.main_arg1)),
    (θ_run Cert.KernelIdeal.defs _ _).mono (fun _ h c => ⟨(h.1 c).1.trans
      (outAt_eq m ρ _ _ (fun d => (hagree d).1) (fun d => (hagree d).2) c), (h.1 c).2⟩) (run_main (F := Ideal) m ρ), ?_⟩
  exact (θ_run Cert.UnclippedIdeal.defs _ _).mono (fun _ h => ⟨(h 0).1.trans (unclipped_value _ _), (h 0).2⟩)
    (Cert.UnclippedIdeal.Value.run (F := Ideal) m' ρ')

/-- The kernel against the reference, where the product is within the clip. -/
theorem algebraic_clipped : Cert.algebraic_KernelIdeal_ReferenceIdeal_pre_within_clip_KernelIdeal := by
  intro m ρ m' ρ' hpre hagree
  refine ⟨activation (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono (fun _ h c => ⟨(h.1 c).1.trans
      (outAt_eq m ρ _ _ (fun d => (hagree d).1) (fun d => (hagree d).2) c), (h.1 c).2⟩) (run_main (F := Ideal) m ρ), ?_⟩
  refine (θ_run Cert.ReferenceIdeal.defs _ _).mono (fun _ h => ⟨(h 0).1.trans (clipped_value _ _ ?_), (h 0).2⟩)
    (Cert.ReferenceIdeal.Value.run (F := Ideal) m' ρ')
  refine within_whole (fun d : Dev Cert.KernelIdeal.nD => m ((d.tc : Thread Cert.KernelIdeal.nD Cert.KernelIdeal.τ).loc Cert.KernelIdeal.main_arg0)) _ _ (fun d => (hagree d).1) (fun d => ?_)
  have h := hpre d
  rwa [(hagree d).2] at h

/-- Everything that is claimed. -/
theorem claim : Cert.Claim := ⟨Cert.Kernel.Gen.facts, Cert.KernelIdeal.Gen.facts, Cert.ReferenceIdeal.Gen.facts,
  Cert.UnclippedIdeal.Gen.facts, Cert.Pre_within_clip_KernelIdeal.Gen.facts, Cert.Pre_within_clip_ReferenceIdeal.Gen.facts,
  frame_kernel, frame_kernelIdeal, fun m ρ _ => frame_kernelIdeal m ρ trivial, frame_reference,
  fun m ρ _ => frame_reference m ρ trivial, frame_unclipped, trivial, algebraic_clipped, algebraic_unclipped⟩

end Cert.Proof

end
